-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "third" .f32 0x3EAAAAAB#32 ((1 / 3 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000 : Shape := ⟨1, ![10000]⟩
abbrev S10000x10000 : Shape := ⟨2, ![10000, 10000]⟩
abbrev S10000x100 : Shape := ⟨2, ![10000, 100]⟩
abbrev S100x100 : Shape := ⟨2, ![100, 100]⟩
abbrev S_ : Shape := ⟨0, ![]⟩
abbrev S10000x1 : Shape := ⟨2, ![10000, 1]⟩
abbrev S400x1 : Shape := ⟨2, ![400, 1]⟩
abbrev S400x100 : Shape := ⟨2, ![400, 100]⟩
abbrev S400x10000 : Shape := ⟨2, ![400, 10000]⟩
abbrev S400 : Shape := ⟨1, ![400]⟩
abbrev S2000x100 : Shape := ⟨2, ![2000, 100]⟩
abbrev S2000 : Shape := ⟨1, ![2000]⟩
abbrev S2000x1 : Shape := ⟨2, ![2000, 1]⟩

abbrev nBuf : Space → Nat
  | .hbm => 18
  | .vmem => 49
  | .smem => 0
  | _ => 0

abbrev bufTy : (tb : Table) → Fin (tcTables nBuf tb) → BufTy
  | .hbm, ⟨0, _⟩ => ⟨S10000, .f32⟩
  | .hbm, ⟨1, _⟩ => ⟨S10000x10000, .f32⟩
  | .hbm, ⟨2, _⟩ => ⟨S10000x100, .f32⟩
  | .hbm, ⟨3, _⟩ => ⟨S100x100, .f32⟩
  | .hbm, ⟨4, _⟩ => ⟨S100x100, .f32⟩
  | .hbm, ⟨5, _⟩ => ⟨S100x100, .f32⟩
  | .hbm, ⟨6, _⟩ => ⟨S100x100, .f32⟩
  | .hbm, ⟨7, _⟩ => ⟨S_, .i32⟩
  | .hbm, ⟨8, _⟩ => ⟨S10000x1, .f32⟩
  | .hbm, ⟨9, _⟩ => ⟨S10000x100, .f32⟩
  | .hbm, ⟨10, _⟩ => ⟨S100x100, .f32⟩
  | .hbm, ⟨11, _⟩ => ⟨S10000x100, .f32⟩
  | .hbm, ⟨12, _⟩ => ⟨S10000x100, .f32⟩
  | .hbm, ⟨13, _⟩ => ⟨S10000x100, .f32⟩
  | .hbm, ⟨14, _⟩ => ⟨S10000x100, .f32⟩
  | .hbm, ⟨15, _⟩ => ⟨S100x100, .f32⟩
  | .hbm, ⟨16, _⟩ => ⟨S10000x100, .f32⟩
  | .hbm, ⟨17, _⟩ => ⟨S10000x100, .f32⟩
  | .local _ .vmem, ⟨0, _⟩ => ⟨S10000x100, .f32⟩
  | .local _ .vmem, ⟨1, _⟩ => ⟨S100x100, .f32⟩
  | .local _ .vmem, ⟨2, _⟩ => ⟨S100x100, .f32⟩
  | .local _ .vmem, ⟨3, _⟩ => ⟨S100x100, .f32⟩
  | .local _ .vmem, ⟨4, _⟩ => ⟨S400x1, .f32⟩
  | .local _ .vmem, ⟨5, _⟩ => ⟨S400x1, .f32⟩
  | .local _ .vmem, ⟨6, _⟩ => ⟨S400x100, .f32⟩
  | .local _ .vmem, ⟨7, _⟩ => ⟨S400x100, .f32⟩
  | .local _ .vmem, ⟨8, _⟩ => ⟨S100x100, .f32⟩
  | .local _ .vmem, ⟨9, _⟩ => ⟨S10000x100, .f32⟩
  | .local _ .vmem, ⟨10, _⟩ => ⟨S400x10000, .f32⟩
  | .local _ .vmem, ⟨11, _⟩ => ⟨S400x10000, .f32⟩
  | .local _ .vmem, ⟨12, _⟩ => ⟨S2000x100, .f32⟩
  | .local _ .vmem, ⟨13, _⟩ => ⟨S2000x100, .f32⟩
  | .local _ .vmem, ⟨14, _⟩ => ⟨S100x100, .f32⟩
  | .local _ .vmem, ⟨15, _⟩ => ⟨S100x100, .f32⟩
  | .local _ .vmem, ⟨16, _⟩ => ⟨S100x100, .f32⟩
  | .local _ .vmem, ⟨17, _⟩ => ⟨S100x100, .f32⟩
  | .local _ .vmem, ⟨18, _⟩ => ⟨S2000x100, .f32⟩
  | .local _ .vmem, ⟨19, _⟩ => ⟨S2000x100, .f32⟩
  | .local _ .vmem, ⟨20, _⟩ => ⟨S2000x100, .f32⟩
  | .local _ .vmem, ⟨21, _⟩ => ⟨S2000x100, .f32⟩
  | .local _ .vmem, ⟨22, _⟩ => ⟨S2000x100, .f32⟩
  | .local _ .vmem, ⟨23, _⟩ => ⟨S2000x100, .f32⟩
  | .local _ .vmem, ⟨24, _⟩ => ⟨S10000x100, .f32⟩
  | .local _ .vmem, ⟨25, _⟩ => ⟨S100x100, .f32⟩
  | .local _ .vmem, ⟨26, _⟩ => ⟨S100x100, .f32⟩
  | .local _ .vmem, ⟨27, _⟩ => ⟨S400x1, .f32⟩
  | .local _ .vmem, ⟨28, _⟩ => ⟨S400x1, .f32⟩
  | .local _ .vmem, ⟨29, _⟩ => ⟨S400x100, .f32⟩
  | .local _ .vmem, ⟨30, _⟩ => ⟨S400x100, .f32⟩
  | .local _ .vmem, ⟨31, _⟩ => ⟨S100x100, .f32⟩
  | .local _ .vmem, ⟨32, _⟩ => ⟨S400x10000, .f32⟩
  | .local _ .vmem, ⟨33, _⟩ => ⟨S400x10000, .f32⟩
  | .local _ .vmem, ⟨34, _⟩ => ⟨S2000x100, .f32⟩
  | .local _ .vmem, ⟨35, _⟩ => ⟨S2000x100, .f32⟩
  | .local _ .vmem, ⟨36, _⟩ => ⟨S100x100, .f32⟩
  | .local _ .vmem, ⟨37, _⟩ => ⟨S100x100, .f32⟩
  | .local _ .vmem, ⟨38, _⟩ => ⟨S100x100, .f32⟩
  | .local _ .vmem, ⟨39, _⟩ => ⟨S2000x100, .f32⟩
  | .local _ .vmem, ⟨40, _⟩ => ⟨S2000x100, .f32⟩
  | .local _ .vmem, ⟨41, _⟩ => ⟨S2000x100, .f32⟩
  | .local _ .vmem, ⟨42, _⟩ => ⟨S2000x100, .f32⟩
  | .local _ .vmem, ⟨43, _⟩ => ⟨S2000x100, .f32⟩
  | .local _ .vmem, ⟨44, _⟩ => ⟨S2000x100, .f32⟩
  | .local _ .vmem, ⟨45, _⟩ => ⟨S2000x100, .f32⟩
  | .local _ .vmem, ⟨46, _⟩ => ⟨S2000x100, .f32⟩
  | .local _ .vmem, ⟨47, _⟩ => ⟨S2000x100, .f32⟩
  | .local _ .vmem, ⟨48, _⟩ => ⟨S2000x100, .f32⟩
  | _, _ => ⟨S10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3_0 : Ref sig .tc := ⟨.hbm, 14, rfl⟩
abbrev main_v3_1 : Ref sig .tc := ⟨.hbm, 15, rfl⟩
abbrev main_v4_0 : Ref sig .tc := ⟨.hbm, 16, rfl⟩
abbrev main_v4_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg4_1 : Ref sig .tc := ⟨.vmem, 40, rfl⟩
abbrev cc3_stg5_0 : Ref sig .tc := ⟨.vmem, 41, rfl⟩
abbrev cc3_stg5_1 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc3_stg8_0 : Ref sig .tc := ⟨.vmem, 47, rfl⟩
abbrev cc3_stg8_1 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc2_sem0_0 : DmaSem sig := 23
abbrev cc2_sem1_0 : DmaSem sig := 24
abbrev cc2_sem2_0 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc3_sem0_0 : DmaSem sig := 33
abbrev cc3_sem0_1 : DmaSem sig := 34
abbrev cc3_sem1_0 : DmaSem sig := 35
abbrev cc3_sem2_0 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c25_i32 : BitVec 32 := 25#32
  let v4 : BitVec 1 := Scalar.cmpi .slt v3 c25_i32
  let c2_i32 : BitVec 32 := 2#32
  let c0_i32_1 : BitVec 32 := 0#32
  let v5 : BitVec 1 := Scalar.cmpi .eq c2_i32 c0_i32_1
  let c1_i32_2 : BitVec 32 := 1#32
  let v6 : BitVec 32 := Scalar.select v5 c1_i32_2 c2_i32
  let v7 : BitVec 32 := Scalar.remsi v3 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 1 := Scalar.andi v4 v15
  let v17 : BitVec 32 := Scalar.extui v16
  let c0_i32_7 : BitVec 32 := 0#32
  let v18 : BitVec 1 := Scalar.cmpi .ne v17 c0_i32_7
  v18

def k0_off1 (i : grid0.Coords) : Fin 2 → Nat :=
  let arg0 : BitVec 32 := BitVec.ofNat 32 (i 0).val
  let c1_i32 : BitVec 32 := 1#32
  let v3 : BitVec 32 := Scalar.addi arg0 c1_i32
  let c400_i32 : BitVec 32 := 400#32
  let v60 : BitVec 32 := Scalar.muli v3 c400_i32
  let c0_i32_33 : BitVec 32 := 0#32
  ![v60.toNat, 0]
def k0_cond3 (i : grid0.Coords) : BitVec 1 :=
  let arg0 : BitVec 32 := BitVec.ofNat 32 (i 0).val
  let c1_i32 : BitVec 32 := 1#32
  let v3 : BitVec 32 := Scalar.addi arg0 c1_i32
  let c25_i32_8 : BitVec 32 := 25#32
  let v19 : BitVec 1 := Scalar.cmpi .slt v3 c25_i32_8
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi v3 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 1 := Scalar.andi v19 v30
  let v32 : BitVec 32 := Scalar.extui v31
  let c0_i32_16 : BitVec 32 := 0#32
  let v33 : BitVec 1 := Scalar.cmpi .ne v32 c0_i32_16
  v33

def k0_off2 (i : grid0.Coords) : Fin 2 → Nat :=
  let arg0 : BitVec 32 := BitVec.ofNat 32 (i 0).val
  let c1_i32 : BitVec 32 := 1#32
  let v3 : BitVec 32 := Scalar.addi arg0 c1_i32
  let c400_i32 : BitVec 32 := 400#32
  let v60 : BitVec 32 := Scalar.muli v3 c400_i32
  let c0_i32_33 : BitVec 32 := 0#32
  ![v60.toNat, 0]
def k0_cond4 (i : grid0.Coords) : BitVec 1 :=
  let arg0 : BitVec 32 := BitVec.ofNat 32 (i 0).val
  let c2_i32_17 : BitVec 32 := 2#32
  let c0_i32_18 : BitVec 32 := 0#32
  let v34 : BitVec 1 := Scalar.cmpi .eq c2_i32_17 c0_i32_18
  let c1_i32_19 : BitVec 32 := 1#32
  let v35 : BitVec 32 := Scalar.select v34 c1_i32_19 c2_i32_17
  let v36 : BitVec 32 := Scalar.remsi arg0 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_23 : BitVec 32 := 0#32
  let v44 : BitVec 1 := Scalar.cmpi .eq v43 c0_i32_23
  let v45 : BitVec 32 := Scalar.extui v44
  let c0_i32_24 : BitVec 32 := 0#32
  let v46 : BitVec 1 := Scalar.cmpi .ne v45 c0_i32_24
  v46

def k0_off3 (i : grid0.Coords) : Fin 2 → Nat :=
  let arg0 : BitVec 32 := BitVec.ofNat 32 (i 0).val
  let c400_i32 : BitVec 32 := 400#32
  let v60 : BitVec 32 := Scalar.muli arg0 c400_i32
  let c0_i32_33 : BitVec 32 := 0#32
  ![v60.toNat, 0]
def k0_cond6 (i : grid0.Coords) : BitVec 1 :=
  let arg0 : BitVec 32 := BitVec.ofNat 32 (i 0).val
  let c2_i32_25 : BitVec 32 := 2#32
  let c0_i32_26 : BitVec 32 := 0#32
  let v47 : BitVec 1 := Scalar.cmpi .eq c2_i32_25 c0_i32_26
  let c1_i32_27 : BitVec 32 := 1#32
  let v48 : BitVec 32 := Scalar.select v47 c1_i32_27 c2_i32_25
  let v49 : BitVec 32 := Scalar.remsi arg0 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c1_i32_31 : BitVec 32 := 1#32
  let v57 : BitVec 1 := Scalar.cmpi .eq v56 c1_i32_31
  let v58 : BitVec 32 := Scalar.extui v57
  let c0_i32_32 : BitVec 32 := 0#32
  let v59 : BitVec 1 := Scalar.cmpi .ne v58 c0_i32_32
  v59

def k0_off4 (i : grid0.Coords) : Fin 2 → Nat :=
  let arg0 : BitVec 32 := BitVec.ofNat 32 (i 0).val
  let c400_i32 : BitVec 32 := 400#32
  let v60 : BitVec 32 := Scalar.muli arg0 c400_i32
  let c0_i32_33 : BitVec 32 := 0#32
  ![v60.toNat, 0]
def k0_cond5 (i : grid0.Coords) : BitVec 1 :=
  let arg0 : BitVec 32 := BitVec.ofNat 32 (i 0).val
  let c0_i32_52 : BitVec 32 := 0#32
  let v92 : BitVec 1 := Scalar.cmpi .eq arg0 c0_i32_52
  let v93 : BitVec 32 := Scalar.extui v92
  let c0_i32_53 : BitVec 32 := 0#32
  let v94 : BitVec 1 := Scalar.cmpi .ne v93 c0_i32_53
  v94

def k0_cond7 (i : grid0.Coords) : BitVec 1 :=
  let arg0 : BitVec 32 := BitVec.ofNat 32 (i 0).val
  let c0_i32_52 : BitVec 32 := 0#32
  let v92 : BitVec 1 := Scalar.cmpi .eq arg0 c0_i32_52
  let v93 : BitVec 32 := Scalar.extui v92
  let c0_i32_53 : BitVec 32 := 0#32
  let v94 : BitVec 1 := Scalar.cmpi .ne v93 c0_i32_53
  v94

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x100 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S100x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x100 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x100 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c1_i32 : BitVec 32 := 1#32
  let v3 : BitVec 32 := Scalar.addi arg0 c1_i32
  let c25_i32 : BitVec 32 := 25#32
  let v4 : BitVec 1 := Scalar.cmpi .slt v3 c25_i32
  let c2_i32 : BitVec 32 := 2#32
  let c0_i32_1 : BitVec 32 := 0#32
  let v5 : BitVec 1 := Scalar.cmpi .eq c2_i32 c0_i32_1
  let c1_i32_2 : BitVec 32 := 1#32
  let v6 : BitVec 32 := Scalar.select v5 c1_i32_2 c2_i32
  let v7 : BitVec 32 := Scalar.remsi v3 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 1 := Scalar.andi v4 v15
  let v17 : BitVec 32 := Scalar.extui v16
  let c0_i32_7 : BitVec 32 := 0#32
  let v18 : BitVec 1 := Scalar.cmpi .ne v17 c0_i32_7
  v18

def k2_off1 (i : grid2.Coords) : Fin 2 → Nat :=
  let arg0 : BitVec 32 := BitVec.ofNat 32 (i 0).val
  let c1_i32 : BitVec 32 := 1#32
  let v3 : BitVec 32 := Scalar.addi arg0 c1_i32
  let c400_i32 : BitVec 32 := 400#32
  let v60 : BitVec 32 := Scalar.muli v3 c400_i32
  let c0_i32_33 : BitVec 32 := 0#32
  ![v60.toNat, 0]
def k2_cond3 (i : grid2.Coords) : BitVec 1 :=
  let arg0 : BitVec 32 := BitVec.ofNat 32 (i 0).val
  let c1_i32 : BitVec 32 := 1#32
  let v3 : BitVec 32 := Scalar.addi arg0 c1_i32
  let c25_i32_8 : BitVec 32 := 25#32
  let v19 : BitVec 1 := Scalar.cmpi .slt v3 c25_i32_8
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi v3 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 1 := Scalar.andi v19 v30
  let v32 : BitVec 32 := Scalar.extui v31
  let c0_i32_16 : BitVec 32 := 0#32
  let v33 : BitVec 1 := Scalar.cmpi .ne v32 c0_i32_16
  v33

def k2_off2 (i : grid2.Coords) : Fin 2 → Nat :=
  let arg0 : BitVec 32 := BitVec.ofNat 32 (i 0).val
  let c1_i32 : BitVec 32 := 1#32
  let v3 : BitVec 32 := Scalar.addi arg0 c1_i32
  let c400_i32 : BitVec 32 := 400#32
  let v60 : BitVec 32 := Scalar.muli v3 c400_i32
  let c0_i32_33 : BitVec 32 := 0#32
  ![v60.toNat, 0]
def k2_cond4 (i : grid2.Coords) : BitVec 1 :=
  let arg0 : BitVec 32 := BitVec.ofNat 32 (i 0).val
  let c2_i32_17 : BitVec 32 := 2#32
  let c0_i32_18 : BitVec 32 := 0#32
  let v34 : BitVec 1 := Scalar.cmpi .eq c2_i32_17 c0_i32_18
  let c1_i32_19 : BitVec 32 := 1#32
  let v35 : BitVec 32 := Scalar.select v34 c1_i32_19 c2_i32_17
  let v36 : BitVec 32 := Scalar.remsi arg0 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c0_i32_23 : BitVec 32 := 0#32
  let v44 : BitVec 1 := Scalar.cmpi .eq v43 c0_i32_23
  let v45 : BitVec 32 := Scalar.extui v44
  let c0_i32_24 : BitVec 32 := 0#32
  let v46 : BitVec 1 := Scalar.cmpi .ne v45 c0_i32_24
  v46

def k2_off3 (i : grid2.Coords) : Fin 2 → Nat :=
  let arg0 : BitVec 32 := BitVec.ofNat 32 (i 0).val
  let c400_i32 : BitVec 32 := 400#32
  let v60 : BitVec 32 := Scalar.muli arg0 c400_i32
  let c0_i32_33 : BitVec 32 := 0#32
  ![v60.toNat, 0]
def k2_cond6 (i : grid2.Coords) : BitVec 1 :=
  let arg0 : BitVec 32 := BitVec.ofNat 32 (i 0).val
  let c2_i32_25 : BitVec 32 := 2#32
  let c0_i32_26 : BitVec 32 := 0#32
  let v47 : BitVec 1 := Scalar.cmpi .eq c2_i32_25 c0_i32_26
  let c1_i32_27 : BitVec 32 := 1#32
  let v48 : BitVec 32 := Scalar.select v47 c1_i32_27 c2_i32_25
  let v49 : BitVec 32 := Scalar.remsi arg0 v48
  let c0_i32_29 : BitVec 32 := 0#32
  let v51 : BitVec 1 := Scalar.cmpi .slt v49 c0_i32_29
  let c0_i32_30 : BitVec 32 := 0#32
  let v52 : BitVec 1 := Scalar.cmpi .slt v48 c0_i32_30
  let v53 : BitVec 1 := Scalar.xori v51 v52
  let c0_i32_28 : BitVec 32 := 0#32
  let v50 : BitVec 1 := Scalar.cmpi .ne v49 c0_i32_28
  let v54 : BitVec 1 := Scalar.andi v53 v50
  let v55 : BitVec 32 := Scalar.addi v49 v48
  let v56 : BitVec 32 := Scalar.select v54 v55 v49
  let c1_i32_31 : BitVec 32 := 1#32
  let v57 : BitVec 1 := Scalar.cmpi .eq v56 c1_i32_31
  let v58 : BitVec 32 := Scalar.extui v57
  let c0_i32_32 : BitVec 32 := 0#32
  let v59 : BitVec 1 := Scalar.cmpi .ne v58 c0_i32_32
  v59

def k2_off4 (i : grid2.Coords) : Fin 2 → Nat :=
  let arg0 : BitVec 32 := BitVec.ofNat 32 (i 0).val
  let c400_i32 : BitVec 32 := 400#32
  let v60 : BitVec 32 := Scalar.muli arg0 c400_i32
  let c0_i32_33 : BitVec 32 := 0#32
  ![v60.toNat, 0]
def k2_cond5 (i : grid2.Coords) : BitVec 1 :=
  let arg0 : BitVec 32 := BitVec.ofNat 32 (i 0).val
  let c0_i32_52 : BitVec 32 := 0#32
  let v93 : BitVec 1 := Scalar.cmpi .eq arg0 c0_i32_52
  let v94 : BitVec 32 := Scalar.extui v93
  let c0_i32_53 : BitVec 32 := 0#32
  let v95 : BitVec 1 := Scalar.cmpi .ne v94 c0_i32_53
  v95

def k2_cond7 (i : grid2.Coords) : BitVec 1 :=
  let arg0 : BitVec 32 := BitVec.ofNat 32 (i 0).val
  let c0_i32_52 : BitVec 32 := 0#32
  let v93 : BitVec 1 := Scalar.cmpi .eq arg0 c0_i32_52
  let v94 : BitVec 32 := Scalar.extui v93
  let c0_i32_53 : BitVec 32 := 0#32
  let v95 : BitVec 1 := Scalar.cmpi .ne v94 c0_i32_53
  v95

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10000x100 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S100x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S100x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x100 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S100x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S100x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x100 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x100 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x100 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S2000x100 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2000x100 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== KernelIdeal.lean ====
variable {F : FTy → Type} [FloatOps F] [Named F]
def κ : String → Option EReal := fun
  | "third" => some ((1 / 3 : ℝ) : EReal)
  | _ => none
-- ==== ReferenceIdeal.lean ====
abbrev S10000 : Shape := ⟨1, ![10000]⟩
abbrev S10000x10000 : Shape := ⟨2, ![10000, 10000]⟩
abbrev S10000x100 : Shape := ⟨2, ![10000, 100]⟩
abbrev S100x100 : Shape := ⟨2, ![100, 100]⟩
abbrev S_ : Shape := ⟨0, ![]⟩
abbrev S10000x1 : Shape := ⟨2, ![10000, 1]⟩
abbrev S100x10000 : Shape := ⟨2, ![100, 10000]⟩
abbrev S1x10000 : Shape := ⟨2, ![1, 10000]⟩

abbrev nBuf : Space → Nat
  | .hbm => 143
  | .vmem => 0
  | .smem => 0
  | _ => 0

abbrev hbmTy0_0 (i : Nat) : BufTy := match i % 128 with
  | 0 => ⟨S10000, .f32⟩
  | 1 => ⟨S10000x10000, .f32⟩
  | 2 => ⟨S10000x100, .f32⟩
  | 3 => ⟨S100x100, .f32⟩
  | 4 => ⟨S100x100, .f32⟩
  | 5 => ⟨S100x100, .f32⟩
  | 6 => ⟨S100x100, .f32⟩
  | 7 => ⟨S_, .i32⟩
  | 8 => ⟨S10000x100, .f32⟩
  | 9 => ⟨S10000x100, .f32⟩
  | 10 => ⟨S10000x100, .f32⟩
  | 11 => ⟨S10000x100, .f32⟩
  | 12 => ⟨S_, .f32⟩
  | 13 => ⟨S10000x100, .f32⟩
  | 14 => ⟨S10000x100, .f32⟩
  | 15 => ⟨S10000x100, .f32⟩
  | 16 => ⟨S_, .f32⟩
  | 17 => ⟨S10000, .f32⟩
  | 18 => ⟨S_, .f32⟩
  | 19 => ⟨S10000, .f32⟩
  | 20 => ⟨S10000, .f32⟩
  | 21 => ⟨S10000x1, .f32⟩
  | 22 => ⟨S10000x100, .f32⟩
  | 23 => ⟨S10000x100, .f32⟩
  | 24 => ⟨S10000x100, .f32⟩
  | 25 => ⟨S_, .f32⟩
  | 26 => ⟨S10000, .f32⟩
  | 27 => ⟨S10000x1, .f32⟩
  | 28 => ⟨S10000x100, .f32⟩
  | 29 => ⟨S10000x100, .f32⟩
  | 30 => ⟨S100x10000, .f32⟩
  | 31 => ⟨S1x10000, .f32⟩
  | 32 => ⟨S100x10000, .f32⟩
  | 33 => ⟨S100x10000, .f32⟩
  | 34 => ⟨S_, .f32⟩
  | 35 => ⟨S10000, .f32⟩
  | 36 => ⟨S_, .f32⟩
  | 37 => ⟨S10000, .f32⟩
  | 38 => ⟨S10000, .f32⟩
  | 39 => ⟨S_, .f32⟩
  | 40 => ⟨S10000, .f32⟩
  | 41 => ⟨S10000, .f32⟩
  | 42 => ⟨S1x10000, .f32⟩
  | 43 => ⟨S100x10000, .f32⟩
  | 44 => ⟨S100x10000, .f32⟩
  | 45 => ⟨S100x100, .f32⟩
  | 46 => ⟨S10000x100, .f32⟩
  | 47 => ⟨S10000x100, .f32⟩
  | 48 => ⟨S10000x100, .f32⟩
  | 49 => ⟨S_, .f32⟩
  | 50 => ⟨S10000, .f32⟩
  | 51 => ⟨S10000x1, .f32⟩
  | 52 => ⟨S10000x1, .f32⟩
  | 53 => ⟨S_, .f32⟩
  | 54 => ⟨S10000x1, .f32⟩
  | 55 => ⟨S10000x1, .f32⟩
  | 56 => ⟨S10000x100, .f32⟩
  | 57 => ⟨S10000x100, .f32⟩
  | 58 => ⟨S10000x100, .f32⟩
  | 59 => ⟨S_, .f32⟩
  | 60 => ⟨S10000, .f32⟩
  | 61 => ⟨S10000x1, .f32⟩
  | 62 => ⟨S10000x1, .f32⟩
  | 63 => ⟨S_, .f32⟩
  | 64 => ⟨S10000x1, .f32⟩
  | 65 => ⟨S10000x1, .f32⟩
  | 66 => ⟨S10000x100, .f32⟩
  | 67 => ⟨S10000x100, .f32⟩
  | 68 => ⟨S10000x100, .f32⟩
  | 69 => ⟨S10000x100, .f32⟩
  | 70 => ⟨S10000x100, .f32⟩
  | 71 => ⟨S10000x100, .f32⟩
  | 72 => ⟨S_, .f32⟩
  | 73 => ⟨S10000x100, .f32⟩
  | 74 => ⟨S10000x100, .f32⟩
  | 75 => ⟨S10000x100, .f32⟩
  | 76 => ⟨S_, .f32⟩
  | 77 => ⟨S10000, .f32⟩
  | 78 => ⟨S_, .f32⟩
  | 79 => ⟨S10000, .f32⟩
  | 80 => ⟨S10000, .f32⟩
  | 81 => ⟨S10000x1, .f32⟩
  | 82 => ⟨S10000x100, .f32⟩
  | 83 => ⟨S10000x100, .f32⟩
  | 84 => ⟨S10000x100, .f32⟩
  | 85 => ⟨S_, .f32⟩
  | 86 => ⟨S10000, .f32⟩
  | 87 => ⟨S10000x1, .f32⟩
  | 88 => ⟨S10000x100, .f32⟩
  | 89 => ⟨S10000x100, .f32⟩
  | 90 => ⟨S100x10000, .f32⟩
  | 91 => ⟨S1x10000, .f32⟩
  | 92 => ⟨S100x10000, .f32⟩
  | 93 => ⟨S100x10000, .f32⟩
  | 94 => ⟨S_, .f32⟩
  | 95 => ⟨S10000, .f32⟩
  | 96 => ⟨S_, .f32⟩
  | 97 => ⟨S10000, .f32⟩
  | 98 => ⟨S10000, .f32⟩
  | 99 => ⟨S_, .f32⟩
  | 100 => ⟨S10000, .f32⟩
  | 101 => ⟨S10000, .f32⟩
  | 102 => ⟨S1x10000, .f32⟩
  | 103 => ⟨S100x10000, .f32⟩
  | 104 => ⟨S100x10000, .f32⟩
  | 105 => ⟨S100x100, .f32⟩
  | 106 => ⟨S10000x100, .f32⟩
  | 107 => ⟨S10000x100, .f32⟩
  | 108 => ⟨S10000x100, .f32⟩
  | 109 => ⟨S_, .f32⟩
  | 110 => ⟨S10000, .f32⟩
  | 111 => ⟨S10000x1, .f32⟩
  | 112 => ⟨S10000x1, .f32⟩
  | 113 => ⟨S_, .f32⟩
  | 114 => ⟨S10000x1, .f32⟩
  | 115 => ⟨S10000x1, .f32⟩
  | 116 => ⟨S10000x100, .f32⟩
  | 117 => ⟨S10000x100, .f32⟩
  | 118 => ⟨S10000x100, .f32⟩
  | 119 => ⟨S_, .f32⟩
  | 120 => ⟨S10000, .f32⟩
  | 121 => ⟨S10000x1, .f32⟩
  | 122 => ⟨S10000x1, .f32⟩
  | 123 => ⟨S_, .f32⟩
  | 124 => ⟨S10000x1, .f32⟩
  | 125 => ⟨S10000x1, .f32⟩
  | 126 => ⟨S10000x100, .f32⟩
  | 127 => ⟨S10000x100, .f32⟩
  | _ => ⟨S10000, .f32⟩

abbrev hbmTy0_1 (i : Nat) : BufTy := match i % 128 with
  | 0 => ⟨S_, .f32⟩
  | 1 => ⟨S10000x100, .f32⟩
  | 2 => ⟨S10000x100, .f32⟩
  | 3 => ⟨S10000x100, .f32⟩
  | 4 => ⟨S10000x100, .f32⟩
  | 5 => ⟨S_, .f32⟩
  | 6 => ⟨S10000x100, .f32⟩
  | 7 => ⟨S10000x100, .f32⟩
  | 8 => ⟨S_, .f32⟩
  | 9 => ⟨S10000x100, .f32⟩
  | 10 => ⟨S10000x100, .f32⟩
  | 11 => ⟨S10000x100, .f32⟩
  | 12 => ⟨S_, .f32⟩
  | 13 => ⟨S10000x100, .f32⟩
  | 14 => ⟨S10000x100, .f32⟩
  | _ => ⟨S10000, .f32⟩

abbrev hbmTy (i : Nat) : BufTy := match i / 128 with
  | 0 => hbmTy0_0 i
  | 1 => hbmTy0_1 i
  | _ => ⟨S10000, .f32⟩

abbrev bufTy : (tb : Table) → Fin (tcTables nBuf tb) → BufTy
  | .hbm, ⟨i, _⟩ => hbmTy i
  | _, _ => ⟨S10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call2_v0 : Ref sig .tc := ⟨.hbm, 58, rfl⟩
abbrev main_call2_cst : Ref sig .tc := ⟨.hbm, 59, rfl⟩
abbrev main_call2_v1 : Ref sig .tc := ⟨.hbm, 60, rfl⟩
abbrev main_call2_v2 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call3_cst : Ref sig .tc := ⟨.hbm, 72, rfl⟩
abbrev main_call3_v0 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_cst_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call4_v0 : Ref sig .tc := ⟨.hbm, 108, rfl⟩
abbrev main_call4_cst : Ref sig .tc := ⟨.hbm, 109, rfl⟩
abbrev main_call4_v1 : Ref sig .tc := ⟨.hbm, 110, rfl⟩
abbrev main_call4_v2 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call5_v0 : Ref sig .tc := ⟨.hbm, 118, rfl⟩
abbrev main_call5_cst : Ref sig .tc := ⟨.hbm, 119, rfl⟩
abbrev main_call5_v1 : Ref sig .tc := ⟨.hbm, 120, rfl⟩
abbrev main_call5_v2 : Ref sig .tc := ⟨.hbm, 121, rfl⟩
abbrev main_v79 : Ref sig .tc := ⟨.hbm, 122, rfl⟩
abbrev main_cst_14 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_15 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_16 : Ref sig .tc := ⟨.hbm, 133, rfl⟩
abbrev main_v88 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_18 : Ref sig .tc := ⟨.hbm, 140, rfl⟩
abbrev main_v93 : Ref sig .tc := ⟨.hbm, 141, rfl⟩
abbrev main_v94 : Ref sig .tc := ⟨.hbm, 142, rfl⟩

abbrev nD : Nat := 1
abbrev τ : Topo := Topo.v7x

variable {F : FTy → Type} [FloatOps F]
-- ==== Proof.Ideal.Base.lean ====
/-
  What the modules on the idealized kernel share: the imports, and the small facts about memory references that hold
  one whole buffer.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.RegionArraysS
public import Idealize.ShloMosaic.Lib.Pipeline.RegionArraysD
public import Idealize.ShloMosaic.Lib.Pipeline.ValueKit
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Whole

variable {sp : Space} {S : Shape} {e : EltTy}

/-- A load of all of a view reads what the view reads. -/
theorem load_all (v : View sig .tc sp S e) {off : Fin S.rank → ℕ} (h : ∀ a, off a = 0)
    (inb : ∀ a, off a + S.size a ≤ S.size a) (f : v.ty.Contents (Elt F)) :
    v.readAt (Elt F) (Rect.unit off S.size inb).toLoadRect f = v.read (Elt F) f :=
  (View.readAt_eq_ld v f _).trans (View.ld_unit_zero (funext h) inb _)

/-- A store over all of a view leaves what was stored, whatever was stored before it. -/
theorem stored_all (v : View sig .tc sp S e) {off : Fin S.rank → ℕ} (h : ∀ a, off a = 0)
    (inb : ∀ a, off a + S.size a ≤ S.size a) (f : v.ty.Contents (Elt F)) (w : S.Idx → Elt F e)
    (L : List (View.Piece (Elt F) S e)) :
    v.read (Elt F) (v.writes (Elt F) f (⟨Rect.unit off S.size inb, w⟩ :: L)) = w := by
  rw [View.read_writes_eq_canon, View.canon_cons_unit_zero (funext h)]
  intro y
  refine ⟨_, List.mem_cons_self, ?_⟩
  rw [Rect.mem_set_unit]
  exact fun a => ⟨by rw [h a]; exact Nat.zero_le _, by rw [h a, Nat.zero_add]; exact (y a).isLt⟩

/-- A load of all of a view, after a store over all of it, reads what was stored. -/
theorem loaded_all [∀ e, Nonempty (Elt F e)] (v : View sig .tc sp S e) {off off' : Fin S.rank → ℕ} (h : ∀ a, off a = 0)
    (h' : ∀ a, off' a = 0) (inb : ∀ a, off a + S.size a ≤ S.size a) (inb' : ∀ a, off' a + S.size a ≤ S.size a)
    (w : S.Idx → Elt F e) (L : List (View.Piece (Elt F) S e)) :
    v.readCov (⟨Rect.unit off' S.size inb', w⟩ :: L) (Rect.unit off S.size inb).toLoadRect = w :=
  View.readCov_cons_unit_lit' v inb' inb w L h' h

/-- The same where what came last was a copy of the whole. -/
theorem loaded_copy [∀ e, Nonempty (Elt F e)] (v : View sig .tc sp S e) {off : Fin S.rank → ℕ} (h : ∀ a, off a = 0)
    (inb : ∀ a, off a + S.size a ≤ S.size a) (w : S.Idx → Elt F e) (L : List (View.Piece (Elt F) S e)) :
    v.readCov (⟨Rect.whole S, w⟩ :: L) (Rect.unit off S.size inb).toLoadRect = w :=
  loaded_all v h (fun _ => rfl) inb _ w L

end Whole

/-- The two offsets of a load or a store of a whole matrix. -/
theorem at_zero : ∀ a : Fin 2, (![0, 0] : Fin 2 → ℕ) a = 0 := by decide

end Cert.KernelIdeal.Hand
-- ==== Proof.Ideal.Adj.lean ====
/-
  The adjacency matrix in its 25 blocks of 400 rows: each block as a reference, the whole matrix taken apart into them and
  put together again, and a copy of one block on its way into a buffer.
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The adjacency matrix, whole. -/
abbrev adjM : Memref sig .tc .hbm S10000x10000 .f32 := Memref.whole main_arg1

/-- Where block `b` of 400 rows begins. -/
def rowOff (b : Fin 25) : Fin 2 → ℕ := ![400 * b.val, 0]

theorem rowOff_inb (b : Fin 25) : ∀ a, rowOff b a + S400x10000.size a ≤ S10000x10000.size a := by
  revert b; decide

/-- Block `b` of 400 rows. -/
abbrev rows (b : Fin 25) : Memref sig .tc .hbm S400x10000 .f32 :=
  adjM.slice (Rect.unit (s := S10000x10000) (rowOff b) S400x10000.size (rowOff_inb b)) (fun _ => rfl)

/-- A slice at the offsets of block `b` is block `b`. -/
theorem slice_rows {off : Fin 2 → ℕ} (b : Fin 25) (h : off = rowOff b)
    (inb : ∀ a, off a + S400x10000.size a ≤ S10000x10000.size a) (hs) :
    adjM.slice (Rect.unit (s := S10000x10000) off S400x10000.size inb) hs = rows b := by
  subst h; rfl

section Held

variable (c : Dev nD) (A : Buf (Elt F) (adjM.view.loc (c : Thread nD τ)))

/-- The rows that a reference to a block names, held at the matrix `A`. -/
abbrev heldRows (s : Memref sig .tc .hbm S400x10000 .f32) (A : Buf (Elt F) (s.view.loc (c : Thread nD τ))) : sProp 𝕄 :=
  s.view.loc (c : Thread nD τ) ↦[s.view.set]{fullShare} A

/-- Block `b` held at the matrix `A`. -/
abbrev home (b : Fin 25) : sProp 𝕄 := heldRows c (rows b) A

/-- The matrix held whole is its 25 blocks held. -/
theorem adj_blocks : (((c : Thread nD τ).loc main_arg1) ↦{fullShare} A : sProp 𝕄) = bigSep Finset.univ (home c A) := by
  rw [Ring.pointsTo_blocks (fun b : Fin 25 => (Rect.unit (s := S10000x10000) (rowOff b) S400x10000.size (rowOff_inb b)).set)
    (fun b b' h => Ring.lead_disjoint (s := S10000x10000) (a₀ := 0) (R := 400) rowOff S400x10000.size rowOff_inb (fun _ => rfl) rfl b b' h)
    (Ring.lead_cover (s := S10000x10000) (a₀ := 0) (R := 400) rowOff S400x10000.size rowOff_inb (fun _ => rfl)
      (fun b a ha => by fin_cases a; (· exact absurd rfl ha); rfl) rfl (fun a ha => by fin_cases a; (· exact absurd rfl ha); rfl) rfl)]
  refine congrArg (bigSep Finset.univ) (funext fun b => ?_)
  unfold home heldRows
  rw [View.set_slice_whole]

/-- What the copy of a block leaves in a buffer that held `f`. -/
abbrev landed (d : Memref sig .tc .vmem S400x10000 .f32) (s : Memref sig .tc .hbm S400x10000 .f32)
    (A : Buf (Elt F) (s.view.loc (c : Thread nD τ))) (f : Buf (Elt F) (d.view.loc (c : Thread nD τ))) :
    Buf (Elt F) (d.view.loc (c : Thread nD τ)) :=
  d.view.writes (Elt F) f [⟨Rect.whole S400x10000, ReadAs.same.apply (s.view.read (Elt F) A)⟩]

/-- A block's copy under way, counted on `sem`: at the end the buffer `d` holds the block and the block's rows come back. -/
abbrev flight (sem : DmaSem sig) (d : Memref sig .tc .vmem S400x10000 .f32) (s : Memref sig .tc .hbm S400x10000 .f32)
    (A : Buf (Elt F) (s.view.loc (c : Thread nD τ))) (f : Buf (Elt F) (d.view.loc (c : Thread nD τ))) : sProp 𝕄 :=
  Transfers.Flight countersEmb (c : Thread nD τ) (SemLoc.dma sem) () 505600
    iprop((d.view.loc (c : Thread nD τ) ↦[d.view.set]{fullShare} landed c d s A f) ∗ heldRows c s A)

/-- A slice at the offsets of block `b`, held, is block `b` held. -/
theorem slice_held {off : Fin 2 → ℕ} (b : Fin 25) (h : off = rowOff b)
    (inb : ∀ a, off a + S400x10000.size a ≤ S10000x10000.size a) (hs) :
    (heldRows c (adjM.slice (Rect.unit (s := S10000x10000) off S400x10000.size inb) hs) A : sProp 𝕄) = home c A b := by
  subst h; rfl

/-- The copy of a slice at the offsets of block `b` is the copy of block `b`. -/
theorem slice_flight {off : Fin 2 → ℕ} (b : Fin 25) (h : off = rowOff b)
    (inb : ∀ a, off a + S400x10000.size a ≤ S10000x10000.size a) (hs) (sem : DmaSem sig) (d : Memref sig .tc .vmem S400x10000 .f32)
    (f : Buf (Elt F) (d.view.loc (c : Thread nD τ))) :
    (flight c sem d (adjM.slice (Rect.unit (s := S10000x10000) off S400x10000.size inb) hs) A f : sProp 𝕄) = flight c sem d (rows b) A f := by
  subst h; rfl

end Held

section Contents

variable (V : Valuation τ sig (Elt F))

/-- The adjacency matrix as the arrays' contents have it. -/
abbrev adj0 (c : Dev nD) : Buf (Elt F) (adjM.view.loc (c : Thread nD τ)) := V (Proc.devRef .tc main_arg1)

/-- The 400 rows of block `b`. -/
def blockRows (c : Dev nD) (b : Fin 25) : Vec F S400x10000 .f32 := (rows b).view.read (Elt F) (adj0 V c)

end Contents

/-- Two blocks out of the matrix, one of them already out. -/
theorem home_next (c : Dev nD) (A : Buf (Elt F) (adjM.view.loc (c : Thread nD τ))) {a b : Fin 25} (h : b ≠ a) :
    bigSep (Finset.univ.erase a) (home c A) = iprop(home c A b ∗ bigSep ((Finset.univ.erase a).erase b) (home c A)) :=
  bigSep_erase (Finset.mem_erase.mpr ⟨h, Finset.mem_univ b⟩)

theorem home_out (c : Dev nD) (A : Buf (Elt F) (adjM.view.loc (c : Thread nD τ))) (a : Fin 25) :
    bigSep Finset.univ (home c A) = iprop(home c A a ∗ bigSep (Finset.univ.erase a) (home c A)) :=
  bigSep_erase (Finset.mem_univ a)

end Cert.KernelIdeal.Hand
-- ==== Proof.Ideal.Pass1Run.lean ====
/-
  The first pass over the adjacency matrix: what its body does at one of the 25 points. There are four kinds of point:
  the first, the others of even number, those of odd number, and the last.
-/
module

public import proofs.«01_k».proof.Proof.Ideal.Adj

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev xM : Memref sig .tc .vmem S10000x100 .f32 := Memref.whole cc0_scratch0
abbrev evenM : Memref sig .tc .vmem S400x10000 .f32 := Memref.whole cc0_scratch1
abbrev oddM : Memref sig .tc .vmem S400x10000 .f32 := Memref.whole cc0_scratch2

/-- The comparison of the point's number with zero, as the body makes it. -/
abbrev isFirst (i : grid0.Coords) : BitVec 1 :=
  Scalar.cmpi .ne (Scalar.extui (Scalar.cmpi .eq (BitVec.ofNat 32 (i 0).val) 0#32)) 0#32

section Runs

variable (c : Dev nD) (i : grid0.Coords) (A : Buf (Elt F) (adjM.view.loc (c : Thread nD τ)))
  (a2 : Memref sig .tc .vmem S10000x100 .f32) (h2 : a2.IsWhole) (a3 : Memref sig .tc .vmem S100x100 .f32) (h3 : a3.IsWhole)
  (a4 : Memref sig .tc .vmem S100x100 .f32) (h4 : a4.IsWhole) (a5 : Memref sig .tc .vmem S100x100 .f32) (h5 : a5.IsWhole)
  (a6 : Memref sig .tc .vmem S400x1 .f32) (h6 : a6.IsWhole) (a7 : Memref sig .tc .vmem S400x100 .f32) (h7 : a7.IsWhole)
  (a8 : Memref sig .tc .vmem S100x100 .f32) (h8 : a8.IsWhole)
  (w1 w2 : Vec F S100x100 .f32) (adj : Vec F S400x1 .f32)

/-- The body at a point. -/
abbrev pass1 : Prog (TpuEff nD τ sig (Elt F) Λ₀ .tc) PUnit :=
  cc0__pass1_body i adjM (Memref.isWhole_whole _) a2 h2 a3 h3 a4 h4 a5 h5 a6 h6 a7 h7 a8 h8
    xM (Memref.isWhole_whole _) evenM (Memref.isWhole_whole _) oddM (Memref.isWhole_whole _) cc0_scratch3 cc0_scratch4

/-- At a point of odd number: the block in flight to the odd buffer is awaited and used, and the next block's copy to the
    even buffer is begun. -/
theorem run1_odd (x : Vec F S10000x100 .f32) (acc : Vec F S100x100 .f32) (s : Memref sig .tc .hbm S400x10000 .f32)
    (As : Buf (Elt F) (s.view.loc (c : Thread nD τ)))
    (c1 : ¬ isFirst i = 1#1) (c2 : k0_cond2 i = 1#1) (c3 : ¬ k0_cond3 i = 1#1) (c4 : ¬ k0_cond4 i = 1#1) (c6 : k0_cond6 i = 1#1) (c7 : ¬ k0_cond7 i = 1#1)
    (W : Waits sig Unit) (K : PUnit → sProp 𝕄) :
    iprop(owns (c : Thread nD τ) a4 fullShare w1
        ∗ owns (c : Thread nD τ) a5 fullShare w2
        ∗ owns (c : Thread nD τ) a6 fullShare adj
        ∗ (∃ d, owns (c : Thread nD τ) a7 fullShare d)
        ∗ owns (c : Thread nD τ) a8 fullShare acc
        ∗ owns (c : Thread nD τ) xM fullShare x
        ∗ (∃ f, flight c cc0_scratch4.sem oddM s As f)
        ∗ (∃ f, evenM.view.loc (c : Thread nD τ) ↦[evenM.view.set]{fullShare} f)
        ∗ semVal ((c : Thread nD τ), SemLoc.dma cc0_scratch3.sem) 0
        ∗ heldRows c (adjM.slice (Rect.unit (s := S10000x10000) (k0_off1 i) S400x10000.size (k0_off1_inb i c2)) (fun _ => rfl)) A
        ∗ owes (c : Thread nD τ) 0 W
        ∗ (iprop(owns (c : Thread nD τ) a4 fullShare w1
            ∗ owns (c : Thread nD τ) a5 fullShare w2
            ∗ owns (c : Thread nD τ) a6 fullShare adj
            ∗ owns (c : Thread nD τ) a7 fullShare (k0_pay7 (s.view.read (Elt F) As) x)
            ∗ owns (c : Thread nD τ) a8 fullShare (k0_pay4 (k0_pay7 (s.view.read (Elt F) As) x) (k0_pay8 (s.view.read (Elt F) As) x w1 w2 adj) acc)
            ∗ owns (c : Thread nD τ) xM fullShare x
            ∗ (∃ f, flight c cc0_scratch3.sem evenM (adjM.slice (Rect.unit (s := S10000x10000) (k0_off1 i) S400x10000.size (k0_off1_inb i c2)) (fun _ => rfl)) A f)
            ∗ (∃ f, oddM.view.loc (c : Thread nD τ) ↦[oddM.view.set]{fullShare} f)
            ∗ semVal ((c : Thread nD τ), SemLoc.dma cc0_scratch4.sem) 0
            ∗ heldRows c s As
            ∗ (∃ W', owes (c : Thread nD τ) 0 W')) -∗ K ⟨⟩))
      ⊢ wp frame (wpE (defs₀ (F := F)) Variants.none c none) Set.univ (pass1 i a2 h2 a3 h3 a4 h4 a5 h5 a6 h6 a7 h7 a8 h8) K := by
  rw [pass1, cc0__pass1_body_eq_skeleton]; unfold cc0__pass1_body_skel
  conv in wp _ _ _ _ _ => simp only [k0_part3_eq_skeleton, k0_part1_eq_skeleton, k0_part2_eq_skeleton]
  unfold k0_part3_skel k0_part2_skel
  conv in wp _ _ _ _ _ => simp only [dif_neg c1, dif_pos c2, dif_neg c3, dif_neg c4, dif_pos c6, dif_neg c7]
  unfold owns
  iintro ⟨⟨%f4, %e4, H4⟩, ⟨%f5, %e5, H5⟩, ⟨%f6, %e6, H6⟩, ⟨%d7, %f7, -, H7⟩, ⟨%f8, %e8, H8⟩, ⟨%fx, %ex, Hx⟩, ⟨%ff, HF⟩, ⟨%fe, He⟩, Hc, Hr, HW, Hk⟩
  sl_exec
  sl_step
  iapply Hk
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run1_odd.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run1_odd.sl.v62; rw [loaded_copy _ at_zero]
  isplitl [Hx]; · iexists fx; isplitr; swap; (· iexact Hx); ipureintro; exact ex
  isplitl [Hc]; · iexists fe; iexact Hc
  isplitl [HF_dst]; · iexists _; iexact HF_dst
  isplitl [HF]; · iexact HF
  isplitl [HF_src]; · iexact HF_src
  iexists _; iexact HW

/-- At a later point of even number, the last one aside: the same with the two buffers exchanged. -/
theorem run1_even (x : Vec F S10000x100 .f32) (acc : Vec F S100x100 .f32) (s : Memref sig .tc .hbm S400x10000 .f32)
    (As : Buf (Elt F) (s.view.loc (c : Thread nD τ)))
    (c1 : ¬ isFirst i = 1#1) (c2 : ¬ k0_cond2 i = 1#1) (c3 : k0_cond3 i = 1#1) (c4 : k0_cond4 i = 1#1) (c5 : ¬ k0_cond5 i = 1#1) (c6 : ¬ k0_cond6 i = 1#1)
    (W : Waits sig Unit) (K : PUnit → sProp 𝕄) :
    iprop(owns (c : Thread nD τ) a4 fullShare w1
        ∗ owns (c : Thread nD τ) a5 fullShare w2
        ∗ owns (c : Thread nD τ) a6 fullShare adj
        ∗ (∃ d, owns (c : Thread nD τ) a7 fullShare d)
        ∗ owns (c : Thread nD τ) a8 fullShare acc
        ∗ owns (c : Thread nD τ) xM fullShare x
        ∗ (∃ f, flight c cc0_scratch3.sem evenM s As f)
        ∗ (∃ f, oddM.view.loc (c : Thread nD τ) ↦[oddM.view.set]{fullShare} f)
        ∗ semVal ((c : Thread nD τ), SemLoc.dma cc0_scratch4.sem) 0
        ∗ heldRows c (adjM.slice (Rect.unit (s := S10000x10000) (k0_off2 i) S400x10000.size (k0_off2_inb i c3)) (fun _ => rfl)) A
        ∗ owes (c : Thread nD τ) 0 W
        ∗ (iprop(owns (c : Thread nD τ) a4 fullShare w1
            ∗ owns (c : Thread nD τ) a5 fullShare w2
            ∗ owns (c : Thread nD τ) a6 fullShare adj
            ∗ owns (c : Thread nD τ) a7 fullShare (k0_pay5 (s.view.read (Elt F) As) x)
            ∗ owns (c : Thread nD τ) a8 fullShare (k0_pay2 (k0_pay5 (s.view.read (Elt F) As) x) (k0_pay6 (s.view.read (Elt F) As) x w1 w2 adj) acc)
            ∗ owns (c : Thread nD τ) xM fullShare x
            ∗ (∃ f, flight c cc0_scratch4.sem oddM (adjM.slice (Rect.unit (s := S10000x10000) (k0_off2 i) S400x10000.size (k0_off2_inb i c3)) (fun _ => rfl)) A f)
            ∗ (∃ f, evenM.view.loc (c : Thread nD τ) ↦[evenM.view.set]{fullShare} f)
            ∗ semVal ((c : Thread nD τ), SemLoc.dma cc0_scratch3.sem) 0
            ∗ heldRows c s As
            ∗ (∃ W', owes (c : Thread nD τ) 0 W')) -∗ K ⟨⟩))
      ⊢ wp frame (wpE (defs₀ (F := F)) Variants.none c none) Set.univ (pass1 i a2 h2 a3 h3 a4 h4 a5 h5 a6 h6 a7 h7 a8 h8) K := by
  rw [pass1, cc0__pass1_body_eq_skeleton]; unfold cc0__pass1_body_skel
  conv in wp _ _ _ _ _ => simp only [k0_part3_eq_skeleton, k0_part1_eq_skeleton, k0_part2_eq_skeleton]
  unfold k0_part3_skel k0_part1_skel
  conv in wp _ _ _ _ _ => simp only [dif_neg c1, dif_neg c2, dif_pos c3, dif_pos c4, dif_neg c5, dif_neg c6]
  unfold owns
  iintro ⟨⟨%f4, %e4, H4⟩, ⟨%f5, %e5, H5⟩, ⟨%f6, %e6, H6⟩, ⟨%d7, %f7, -, H7⟩, ⟨%f8, %e8, H8⟩, ⟨%fx, %ex, Hx⟩, ⟨%ff, HF⟩, ⟨%fe, He⟩, Hc, Hr, HW, Hk⟩
  sl_exec
  sl_step
  iapply Hk
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run1_even.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run1_even.sl.v62; rw [loaded_copy _ at_zero]
  isplitl [Hx]; · iexists fx; isplitr; swap; (· iexact Hx); ipureintro; exact ex
  isplitl [Hc]; · iexists fe; iexact Hc
  isplitl [HF_dst]; · iexists _; iexact HF_dst
  isplitl [HF]; · iexact HF
  isplitl [HF_src]; · iexact HF_src
  iexists _; iexact HW

/-- At the last point, of even number: nothing more is begun. -/
theorem run1_last (x : Vec F S10000x100 .f32) (acc : Vec F S100x100 .f32) (s : Memref sig .tc .hbm S400x10000 .f32)
    (As : Buf (Elt F) (s.view.loc (c : Thread nD τ)))
    (c1 : ¬ isFirst i = 1#1) (c2 : ¬ k0_cond2 i = 1#1) (c3 : ¬ k0_cond3 i = 1#1) (c4 : k0_cond4 i = 1#1) (c5 : ¬ k0_cond5 i = 1#1) (c6 : ¬ k0_cond6 i = 1#1)
    (W : Waits sig Unit) (K : PUnit → sProp 𝕄) :
    iprop(owns (c : Thread nD τ) a4 fullShare w1
        ∗ owns (c : Thread nD τ) a5 fullShare w2
        ∗ owns (c : Thread nD τ) a6 fullShare adj
        ∗ (∃ d, owns (c : Thread nD τ) a7 fullShare d)
        ∗ owns (c : Thread nD τ) a8 fullShare acc
        ∗ owns (c : Thread nD τ) xM fullShare x
        ∗ (∃ f, flight c cc0_scratch3.sem evenM s As f)
        ∗ owes (c : Thread nD τ) 0 W
        ∗ (iprop(owns (c : Thread nD τ) a4 fullShare w1
            ∗ owns (c : Thread nD τ) a5 fullShare w2
            ∗ owns (c : Thread nD τ) a6 fullShare adj
            ∗ owns (c : Thread nD τ) a7 fullShare (k0_pay5 (s.view.read (Elt F) As) x)
            ∗ owns (c : Thread nD τ) a8 fullShare (k0_pay2 (k0_pay5 (s.view.read (Elt F) As) x) (k0_pay6 (s.view.read (Elt F) As) x w1 w2 adj) acc)
            ∗ owns (c : Thread nD τ) xM fullShare x
            ∗ (∃ f, evenM.view.loc (c : Thread nD τ) ↦[evenM.view.set]{fullShare} f)
            ∗ semVal ((c : Thread nD τ), SemLoc.dma cc0_scratch3.sem) 0
            ∗ heldRows c s As
            ∗ (∃ W', owes (c : Thread nD τ) 0 W')) -∗ K ⟨⟩))
      ⊢ wp frame (wpE (defs₀ (F := F)) Variants.none c none) Set.univ (pass1 i a2 h2 a3 h3 a4 h4 a5 h5 a6 h6 a7 h7 a8 h8) K := by
  rw [pass1, cc0__pass1_body_eq_skeleton]; unfold cc0__pass1_body_skel
  conv in wp _ _ _ _ _ => simp only [k0_part3_eq_skeleton, k0_part1_eq_skeleton, k0_part2_eq_skeleton]
  unfold k0_part3_skel k0_part1_skel
  conv in wp _ _ _ _ _ => simp only [dif_neg c1, dif_neg c2, dif_neg c3, dif_pos c4, dif_neg c5, dif_neg c6]
  unfold owns
  iintro ⟨⟨%f4, %e4, H4⟩, ⟨%f5, %e5, H5⟩, ⟨%f6, %e6, H6⟩, ⟨%d7, %f7, -, H7⟩, ⟨%f8, %e8, H8⟩, ⟨%fx, %ex, Hx⟩, ⟨%ff, HF⟩, HW, Hk⟩
  sl_exec
  sl_step
  iapply Hk
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run1_last.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run1_last.sl.v62; rw [loaded_copy _ at_zero]
  isplitl [Hx]; · iexists fx; isplitr; swap; (· iexact Hx); ipureintro; exact ex
  isplitl [HF_dst]; · iexists _; iexact HF_dst
  isplitl [HF]; · iexact HF
  isplitl [HF_src]; · iexact HF_src
  iexists _; iexact HW

/-- At the first point: the first block's copy is begun, the operand of the products is computed, the second block's copy is
    begun, and the first block is awaited and used; the sum starts from zero. -/
theorem run1_first (e : Vec F S10000x100 .f32) (w0 : Vec F S100x100 .f32)
    (c1 : isFirst i = 1#1) (c2 : ¬ k0_cond2 i = 1#1) (c3 : k0_cond3 i = 1#1) (c4 : k0_cond4 i = 1#1) (c5 : k0_cond5 i = 1#1) (c6 : ¬ k0_cond6 i = 1#1)
    (W : Waits sig Unit) (K : PUnit → sProp 𝕄) :
    iprop(owns (c : Thread nD τ) a2 fullShare e
        ∗ owns (c : Thread nD τ) a3 fullShare w0
        ∗ owns (c : Thread nD τ) a4 fullShare w1
        ∗ owns (c : Thread nD τ) a5 fullShare w2
        ∗ owns (c : Thread nD τ) a6 fullShare adj
        ∗ (∃ d, owns (c : Thread nD τ) a7 fullShare d)
        ∗ (∃ d, owns (c : Thread nD τ) a8 fullShare d)
        ∗ (∃ d, owns (c : Thread nD τ) xM fullShare d)
        ∗ (∃ f, evenM.view.loc (c : Thread nD τ) ↦[evenM.view.set]{fullShare} f)
        ∗ (∃ f, oddM.view.loc (c : Thread nD τ) ↦[oddM.view.set]{fullShare} f)
        ∗ semVal ((c : Thread nD τ), SemLoc.dma cc0_scratch3.sem) 0
        ∗ semVal ((c : Thread nD τ), SemLoc.dma cc0_scratch4.sem) 0
        ∗ heldRows c (adjM.slice (Rect.unit (s := S10000x10000) ![0, 0] S400x10000.size inb_S10000x10000_S400x10000_0_0) (fun _ => rfl)) A
        ∗ heldRows c (adjM.slice (Rect.unit (s := S10000x10000) (k0_off2 i) S400x10000.size (k0_off2_inb i c3)) (fun _ => rfl)) A
        ∗ owes (c : Thread nD τ) 0 W
        ∗ (iprop(owns (c : Thread nD τ) a2 fullShare e
            ∗ owns (c : Thread nD τ) a3 fullShare w0
            ∗ owns (c : Thread nD τ) a4 fullShare w1
            ∗ owns (c : Thread nD τ) a5 fullShare w2
            ∗ owns (c : Thread nD τ) a6 fullShare adj
            ∗ owns (c : Thread nD τ) a7 fullShare (k0_pay5 ((adjM.slice (Rect.unit (s := S10000x10000) ![0, 0] S400x10000.size inb_S10000x10000_S400x10000_0_0) (fun _ => rfl)).view.read (Elt F) A) (k0_pay9 e w0))
            ∗ owns (c : Thread nD τ) a8 fullShare (k0_pay2 (k0_pay5 ((adjM.slice (Rect.unit (s := S10000x10000) ![0, 0] S400x10000.size inb_S10000x10000_S400x10000_0_0) (fun _ => rfl)).view.read (Elt F) A) (k0_pay9 e w0)) (k0_pay6 ((adjM.slice (Rect.unit (s := S10000x10000) ![0, 0] S400x10000.size inb_S10000x10000_S400x10000_0_0) (fun _ => rfl)).view.read (Elt F) A) (k0_pay9 e w0) w1 w2 adj) k0_pay1)
            ∗ owns (c : Thread nD τ) xM fullShare (k0_pay9 e w0)
            ∗ (∃ f, flight c cc0_scratch4.sem oddM (adjM.slice (Rect.unit (s := S10000x10000) (k0_off2 i) S400x10000.size (k0_off2_inb i c3)) (fun _ => rfl)) A f)
            ∗ (∃ f, evenM.view.loc (c : Thread nD τ) ↦[evenM.view.set]{fullShare} f)
            ∗ semVal ((c : Thread nD τ), SemLoc.dma cc0_scratch3.sem) 0
            ∗ heldRows c (adjM.slice (Rect.unit (s := S10000x10000) ![0, 0] S400x10000.size inb_S10000x10000_S400x10000_0_0) (fun _ => rfl)) A
            ∗ (∃ W', owes (c : Thread nD τ) 0 W')) -∗ K ⟨⟩))
      ⊢ wp frame (wpE (defs₀ (F := F)) Variants.none c none) Set.univ (pass1 i a2 h2 a3 h3 a4 h4 a5 h5 a6 h6 a7 h7 a8 h8) K := by
  rw [pass1, cc0__pass1_body_eq_skeleton]; unfold cc0__pass1_body_skel
  conv in wp _ _ _ _ _ => simp only [k0_part3_eq_skeleton, k0_part1_eq_skeleton, k0_part2_eq_skeleton]
  unfold k0_part3_skel k0_part1_skel
  conv in wp _ _ _ _ _ => simp only [dif_pos c1, dif_neg c2, dif_pos c3, dif_pos c4, dif_pos c5, dif_neg c6]
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%dx, %fx, -, Hx⟩, ⟨%fe, He⟩, ⟨%fo, Ho⟩, Hc3, Hc4, Hr0, Hr, HW, Hk⟩
  sl_exec
  sl_step
  iapply Hk
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  have hb : run1_first.sl.v62 c A = (adjM.slice (Rect.unit (s := S10000x10000) ![0, 0] S400x10000.size inb_S10000x10000_S400x10000_0_0) (fun _ => rfl)).view.read (Elt F) A := by
    unfold run1_first.sl.v62; rw [loaded_copy _ at_zero]; rfl
  have hx : run1_first.sl.v63 c a2 a3 f2 f3 = k0_pay9 e w0 := by
    unfold run1_first.sl.v63 run1_first.sl.Hx_1
    rw [loaded_all _ at_zero at_zero, load_all _ at_zero, load_all _ at_zero, e2, e3]
  isplitl [H7]
  · iexists _; isplitr; swap; (· iexact H7); ipureintro
    rw [stored_all _ at_zero, hb, hx]
  isplitl [H8]
  · iexists _; isplitr; swap; (· iexact H8); ipureintro
    rw [stored_all _ at_zero]; dsimp only
    rw [load_all _ at_zero, load_all _ at_zero, load_all _ at_zero, e4, e5, e6, hb, hx]
    unfold run1_first.sl.v95 run1_first.sl.H8_1
    rw [loaded_all _ at_zero at_zero]
  isplitl [Hx]
  · iexists _; isplitr; swap; (· iexact Hx); ipureintro
    unfold run1_first.sl.Hx_1
    rw [stored_all _ at_zero, load_all _ at_zero, load_all _ at_zero, e2, e3]
  isplitl [Hc4]; · iexists fo; iexact Hc4
  isplitl [He]; · iexists _; iexact He
  isplitl [Hc3]; · iexact Hc3
  isplitl [Hr0]; · iexact Hr0
  iexists _; iexact HW

end Runs

end Cert.KernelIdeal.Hand
-- ==== Proof.Ideal.Pass1Facts.lean ====
/-
  The first kernel call over its 25 points: the contents of its windows and of its three buffers from point to point
  (`dat0`), and the body's obligation at every point (`body0`).
-/
module

public import proofs.«01_k».proof.Proof.Ideal.Pass1Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What the point's number decides -/

/-- The number of a point as a block's number. -/
abbrev blk0 (t : Fin cfg0.N) : Fin 25 := ⟨t.val, t.isLt⟩

theorem first0 : ∀ t : Fin cfg0.N, t.val = 0 → isFirst (cfg0.grid.coords t) = 1#1 ∧ ¬ k0_cond2 (cfg0.grid.coords t) = 1#1
    ∧ k0_cond3 (cfg0.grid.coords t) = 1#1 ∧ k0_cond4 (cfg0.grid.coords t) = 1#1 ∧ k0_cond5 (cfg0.grid.coords t) = 1#1
    ∧ ¬ k0_cond6 (cfg0.grid.coords t) = 1#1 := by
  show ∀ t : Fin grid0.N, _
  decide

theorem odd0 : ∀ t : Fin cfg0.N, t.val % 2 = 1 → ¬ isFirst (cfg0.grid.coords t) = 1#1 ∧ k0_cond2 (cfg0.grid.coords t) = 1#1
    ∧ ¬ k0_cond3 (cfg0.grid.coords t) = 1#1 ∧ ¬ k0_cond4 (cfg0.grid.coords t) = 1#1 ∧ k0_cond6 (cfg0.grid.coords t) = 1#1
    ∧ ¬ k0_cond7 (cfg0.grid.coords t) = 1#1 := by
  show ∀ t : Fin grid0.N, _
  decide

theorem even0 : ∀ t : Fin cfg0.N, t.val % 2 = 0 → t.val ≠ 0 → t.val ≠ 24 → ¬ isFirst (cfg0.grid.coords t) = 1#1
    ∧ ¬ k0_cond2 (cfg0.grid.coords t) = 1#1 ∧ k0_cond3 (cfg0.grid.coords t) = 1#1 ∧ k0_cond4 (cfg0.grid.coords t) = 1#1
    ∧ ¬ k0_cond5 (cfg0.grid.coords t) = 1#1 ∧ ¬ k0_cond6 (cfg0.grid.coords t) = 1#1 := by
  show ∀ t : Fin grid0.N, _
  decide

theorem last0 : ∀ t : Fin cfg0.N, t.val = 24 → ¬ isFirst (cfg0.grid.coords t) = 1#1 ∧ ¬ k0_cond2 (cfg0.grid.coords t) = 1#1
    ∧ ¬ k0_cond3 (cfg0.grid.coords t) = 1#1 ∧ k0_cond4 (cfg0.grid.coords t) = 1#1 ∧ ¬ k0_cond5 (cfg0.grid.coords t) = 1#1
    ∧ ¬ k0_cond6 (cfg0.grid.coords t) = 1#1 := by
  show ∀ t : Fin grid0.N, _
  decide

/-- The slice whose copy a point of odd number begins is the next block. -/
theorem next_odd0 : ∀ t : Fin cfg0.N, t.val % 2 = 1 → ∀ h : t.val + 1 < 25, k0_off1 (cfg0.grid.coords t) = rowOff ⟨t.val + 1, h⟩ := by
  show ∀ t : Fin grid0.N, _
  decide

/-- The slice whose copy a point of even number begins is the next block. -/
theorem next_even0 : ∀ t : Fin cfg0.N, t.val % 2 = 0 → ∀ h : t.val + 1 < 25, k0_off2 (cfg0.grid.coords t) = rowOff ⟨t.val + 1, h⟩ := by
  show ∀ t : Fin grid0.N, _
  decide

/-- Both results are written at every point. -/
theorem live0_5 : ∀ i : grid0.Coords, cfg0.idle 5 i = false := by
  show ∀ i : grid0.Coords, idle0 5 i = false
  decide
theorem live0_6 : ∀ i : grid0.Coords, cfg0.idle 6 i = false := by
  show ∀ i : grid0.Coords, idle0 6 i = false
  decide

end Cert.KernelIdeal.Hand
-- ==== Proof.Ideal.Pass1.lean ====
/-
  The first kernel call over its 25 points: the contents of its windows and of its three buffers from point to point
  (`dat0`), and the body's obligation at every point (`body0`).
-/
module

public import proofs.«01_k».proof.Proof.Ideal.Pass1Facts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Values

variable (V : Valuation τ sig (Elt F))

/-- The first point. -/
abbrev pt0 : Fin cfg0.N := ⟨0, by decide⟩

/-- Window `w`'s block at point `t`, read off the arrays' contents `V`. -/
def in0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

abbrev e0 (t : Fin cfg0.N) : Vec F S10000x100 .f32 := in0 V 0 t
abbrev w0 (t : Fin cfg0.N) : Vec F S100x100 .f32 := in0 V 1 t
abbrev u0 (t : Fin cfg0.N) : Vec F S100x100 .f32 := in0 V 2 t
abbrev v0 (t : Fin cfg0.N) : Vec F S100x100 .f32 := in0 V 3 t
abbrev j0 (t : Fin cfg0.N) : Vec F S400x1 .f32 := in0 V 4 t

/-- The products' right operand, computed at the first point and kept. -/
def x0 : Vec F S10000x100 .f32 := k0_pay9 (e0 V pt0) (w0 V pt0)

/-- The pooled rows of a point, and their gated and weighted values. -/
def out0_5 (c : Dev nD) (t : Fin cfg0.N) : Vec F S400x100 .f32 := k0_pay5 (blockRows V c (blk0 t)) (x0 V)
def gate0 (c : Dev nD) (t : Fin cfg0.N) : Vec F S400x100 .f32 := k0_pay6 (blockRows V c (blk0 t)) (x0 V) (u0 V t) (v0 V t) (j0 V t)

/-- The sum over the points before the `n`-th. -/
def sum0 (c : Dev nD) : ℕ → Vec F S100x100 .f32
  | 0 => k0_pay1
  | n + 1 => if h : n < cfg0.N then k0_pay2 (out0_5 V c ⟨n, h⟩) (gate0 V c ⟨n, h⟩) (sum0 c n) else sum0 c n

theorem sum0_succ (c : Dev nD) (t : Fin cfg0.N) : sum0 V c (t.val + 1) = k0_pay2 (out0_5 V c t) (gate0 V c t) (sum0 V c t.val) := by
  show (if h : t.val < cfg0.N then _ else _) = _
  rw [dif_pos t.isLt]

end Values

/-! ## The three buffers from point to point -/

section Buffers

variable (c : Dev nD) (A : Buf (Elt F) (adjM.view.loc (c : Thread nD τ)))

/-- Nothing under way: every buffer free, both counters at zero, the matrix whole. -/
def idle0S : sProp 𝕄 :=
  iprop((∃ d, owns (c : Thread nD τ) xM fullShare d)
    ∗ (∃ f, evenM.view.loc (c : Thread nD τ) ↦[evenM.view.set]{fullShare} f)
    ∗ (∃ f, oddM.view.loc (c : Thread nD τ) ↦[oddM.view.set]{fullShare} f)
    ∗ semVal ((c : Thread nD τ), SemLoc.dma cc0_scratch3.sem) 0 ∗ semVal ((c : Thread nD τ), SemLoc.dma cc0_scratch4.sem) 0
    ∗ bigSep Finset.univ (home c A))

/-- Block `b` on its way into the even buffer. -/
def toEven0 (x : Vec F S10000x100 .f32) (b : Fin 25) : sProp 𝕄 :=
  iprop(owns (c : Thread nD τ) xM fullShare x
    ∗ (∃ f, flight c cc0_scratch3.sem evenM (rows b) A f)
    ∗ (∃ f, oddM.view.loc (c : Thread nD τ) ↦[oddM.view.set]{fullShare} f)
    ∗ semVal ((c : Thread nD τ), SemLoc.dma cc0_scratch4.sem) 0
    ∗ bigSep (Finset.univ.erase b) (home c A))

/-- Block `b` on its way into the odd buffer. -/
def toOdd0 (x : Vec F S10000x100 .f32) (b : Fin 25) : sProp 𝕄 :=
  iprop(owns (c : Thread nD τ) xM fullShare x
    ∗ (∃ f, flight c cc0_scratch4.sem oddM (rows b) A f)
    ∗ (∃ f, evenM.view.loc (c : Thread nD τ) ↦[evenM.view.set]{fullShare} f)
    ∗ semVal ((c : Thread nD τ), SemLoc.dma cc0_scratch3.sem) 0
    ∗ bigSep (Finset.univ.erase b) (home c A))

/-- The buffers before point `n`: that point's block is on its way, except at the two ends. -/
def state0 (x : Vec F S10000x100 .f32) (n : ℕ) : sProp 𝕄 :=
  if h : 0 < n ∧ n < 25 then (if n % 2 = 0 then toEven0 c A x ⟨n, h.2⟩ else toOdd0 c A x ⟨n, h.2⟩) else idle0S c A

theorem state0_zero (x : Vec F S10000x100 .f32) : state0 c A x 0 = idle0S c A := dif_neg (by decide)
theorem state0_end (x : Vec F S10000x100 .f32) : state0 c A x 25 = idle0S c A := dif_neg (by decide)
theorem state0_even (x : Vec F S10000x100 .f32) (n : ℕ) (h0 : 0 < n) (h : n < 25) (he : n % 2 = 0) :
    state0 c A x n = toEven0 c A x ⟨n, h⟩ := by unfold state0; rw [dif_pos ⟨h0, h⟩, if_pos he]
theorem state0_odd (x : Vec F S10000x100 .f32) (n : ℕ) (h : n < 25) (he : n % 2 = 1) :
    state0 c A x n = toOdd0 c A x ⟨n, h⟩ := by unfold state0; rw [dif_pos ⟨by omega, h⟩, if_neg (by omega)]

end Buffers

/-! ## The proof data -/

variable (V : Valuation τ sig (Elt F))

/-- What lies beside the windows before point `n`. -/
def rest0 (c : Dev nD) (n : ℕ) : sProp 𝕄 :=
  iprop(state0 c (adj0 V c) (x0 V) n
    ∗ Pipeline.scopedRestBut (Ix := Unit) (Name := ℕ) (U := Pipeline.UD sig nD τ) (Lvl := ℕ) (Val := Elt F) spec0 c [cc0_scratch0, cc0_scratch1, cc0_scratch2]
    ∗ ∃ r, prngReg c r)

def rest0S (c : Dev nD) (n : ℕ) (_ : n ≤ cfg0.N) : sProp 𝕄 := rest0 V c n

/-- The proof data over the entry contents `V`. -/
def dat0 (c : Dev nD) : Dat τ (Elt F) Unit ℕ (Pipeline.UD sig nD τ) ℕ cfg0 c where
  A w := V (Proc.devRef .tc (Pipeline.arrRef spec0 w))
  after w t := match w with
    | ⟨0, _⟩ => e0 V t
    | ⟨1, _⟩ => w0 V t
    | ⟨2, _⟩ => u0 V t
    | ⟨3, _⟩ => v0 V t
    | ⟨4, _⟩ => j0 V t
    | ⟨5, _⟩ => out0_5 V c t
    | ⟨6, _⟩ => sum0 V c (t.val + 1)
  Φ t := rest0S V c t.val (Nat.le_of_lt_succ t.isLt)
  q _ := fullShare
  owed _ := 0

theorem before0_0 (c : Dev nD) (t : Fin cfg0.N) (d) : (dat0 V c).before 0 t d = e0 V t :=
  (dat0 V c).before_in_eq_fetched 0 rfl (fun _ => rfl) (fun _ _ _ => rfl) (fun _ => rfl) t d
theorem before0_1 (c : Dev nD) (t : Fin cfg0.N) (d) : (dat0 V c).before 1 t d = w0 V t :=
  (dat0 V c).before_in_eq_fetched 1 rfl (fun _ => rfl) (fun _ _ _ => rfl) (fun _ => rfl) t d
theorem before0_2 (c : Dev nD) (t : Fin cfg0.N) (d) : (dat0 V c).before 2 t d = u0 V t :=
  (dat0 V c).before_in_eq_fetched 2 rfl (fun _ => rfl) (fun _ _ _ => rfl) (fun _ => rfl) t d
theorem before0_3 (c : Dev nD) (t : Fin cfg0.N) (d) : (dat0 V c).before 3 t d = v0 V t :=
  (dat0 V c).before_in_eq_fetched 3 rfl (fun _ => rfl) (fun _ _ _ => rfl) (fun _ => rfl) t d
theorem before0_4 (c : Dev nD) (t : Fin cfg0.N) (d) : (dat0 V c).before 4 t d = j0 V t :=
  (dat0 V c).before_in_eq_fetched 4 rfl (fun _ => rfl) (fun _ _ _ => rfl) (fun _ => rfl) t d

/-- After the first point the sum's buffer holds what the point before left. -/
theorem before0_6 (c : Dev nD) (t : Fin cfg0.N) (ht : t.val ≠ 0) (d) : (dat0 V c).before 6 t d = sum0 V c t.val := by
  have hf : (cfg0.win 6).flush ⟨t.val - 1, Nat.lt_of_le_of_lt (Nat.sub_le _ _) t.isLt⟩ = false := by
    rw [Bool.eq_false_iff, Ne, flush0_6]
    have : t.val < 25 := t.isLt
    show ¬ (t.val - 1) % 25 = 24
    omega
  rw [(dat0 V c).before_out_kept 6 rfl t ht hf live0_6 (fun _ _ => rfl) d]
  show sum0 V c (t.val - 1 + 1) = _
  rw [Nat.sub_add_cancel (Nat.pos_of_ne_zero ht)]

/-- The defining row of the pipeline's body at point `t`. -/
theorem defs_row0 (t : Fin cfg0.N) : defs₀ (F := F) .tc cfg0.body (cfg0.bodyArgs t (cfg0.slots t)) = bodyAt0 t := by
  unfold defs₀; rw [Defs.onTc_tc]

theorem rest0_castSucc (c : Dev nD) (t : Fin cfg0.N) : (dat0 V c).Φ t.castSucc = rest0 V c t.val := by
  dsimp only [dat0]; exact Pipeline.Dat.Φ_castSucc (rest0S V c) t
theorem rest0_succ (c : Dev nD) (t : Fin cfg0.N) : (dat0 V c).Φ t.succ = rest0 V c (t.val + 1) := by
  dsimp only [dat0]; rfl

/-- Any record of waits is within the bound, which is all. -/
theorem owes_any (c : Dev nD) (t : Fin (cfg0.N + 1)) (W : Waits sig Unit) :
    owes (c : Thread nD τ) 0 W ⊢ ((dat0 V c).owesAt () t : sProp 𝕄) := by
  iintro H
  iexists W; isplitr; · ipureintro; exact fun _ _ => Or.inl trivial
  iexact H

section Points

variable (c : Dev nD) (t : Fin cfg0.N)
  (a2 : Memref sig .tc .vmem S10000x100 .f32) (h2 : a2.IsWhole) (a3 : Memref sig .tc .vmem S100x100 .f32) (h3 : a3.IsWhole)
  (a4 : Memref sig .tc .vmem S100x100 .f32) (h4 : a4.IsWhole) (a5 : Memref sig .tc .vmem S100x100 .f32) (h5 : a5.IsWhole)
  (a6 : Memref sig .tc .vmem S400x1 .f32) (h6 : a6.IsWhole) (a7 : Memref sig .tc .vmem S400x100 .f32) (h7 : a7.IsWhole)
  (a8 : Memref sig .tc .vmem S100x100 .f32) (h8 : a8.IsWhole)

/-- What a point leaves: the inputs as they were, the two results, and the next point's state. -/
abbrev after0 : sProp 𝕄 :=
  iprop(owns (c : Thread nD τ) a2 fullShare (e0 V t)
    ∗ owns (c : Thread nD τ) a3 fullShare (w0 V t)
    ∗ owns (c : Thread nD τ) a4 fullShare (u0 V t)
    ∗ owns (c : Thread nD τ) a5 fullShare (v0 V t)
    ∗ owns (c : Thread nD τ) a6 fullShare (j0 V t)
    ∗ owns (c : Thread nD τ) a7 fullShare (out0_5 V c t)
    ∗ owns (c : Thread nD τ) a8 fullShare (sum0 V c (t.val + 1))
    ∗ state0 c (adj0 V c) (x0 V) (t.val + 1)
    ∗ (∃ W', owes (c : Thread nD τ) 0 W'))

/-- The body at point `t`, given what lies in the sum's buffer. -/
abbrev Does0 (s : sProp 𝕄) : Prop := ∀ (W : Waits sig Unit) (K : PUnit → sProp 𝕄),
  iprop(owns (c : Thread nD τ) a2 fullShare (e0 V t)
    ∗ owns (c : Thread nD τ) a3 fullShare (w0 V t)
    ∗ owns (c : Thread nD τ) a4 fullShare (u0 V t)
    ∗ owns (c : Thread nD τ) a5 fullShare (v0 V t)
    ∗ owns (c : Thread nD τ) a6 fullShare (j0 V t)
    ∗ (∃ d, owns (c : Thread nD τ) a7 fullShare d)
    ∗ s
    ∗ state0 c (adj0 V c) (x0 V) t.val
    ∗ owes (c : Thread nD τ) 0 W
    ∗ (after0 V c t a2 a3 a4 a5 a6 a7 a8 -∗ K ⟨⟩))
  ⊢ wp frame (wpE (defs₀ (F := F)) Variants.none c none) Set.univ (pass1 (cfg0.grid.coords t) a2 h2 a3 h3 a4 h4 a5 h5 a6 h6 a7 h7 a8 h8) K

theorem does0_odd (ho : t.val % 2 = 1) :
    Does0 V c t a2 h2 a3 h3 a4 h4 a5 h5 a6 h6 a7 h7 a8 h8 (owns (c : Thread nD τ) a8 fullShare (sum0 V c t.val)) := by
  obtain ⟨c1, c2, c3, c4, c6, c7⟩ := odd0 t ho
  have hlt : t.val < 25 := t.isLt
  have hn : t.val + 1 < 25 := by omega
  intro W K
  unfold after0
  rw [state0_odd c _ _ t.val hlt ho, state0_even c _ _ (t.val + 1) (Nat.succ_pos _) hn (by omega)]
  unfold toOdd0 toEven0
  rw [home_next c _ (a := ⟨t.val, hlt⟩) (b := ⟨t.val + 1, hn⟩) (fun h => Nat.succ_ne_self t.val (Fin.ext_iff.mp h)),
    home_next c _ (a := ⟨t.val + 1, hn⟩) (b := ⟨t.val, hlt⟩) (fun h => Nat.succ_ne_self t.val (Fin.ext_iff.mp h).symm), Finset.erase_right_comm]
  iintro ⟨H2, H3, H4, H5, H6, H7, H8, ⟨Hx, HF, He, Hc, Hn, Hh⟩, HW, Hk⟩
  iapply (run1_odd c (cfg0.grid.coords t) (adj0 V c) a2 h2 a3 h3 a4 h4 a5 h5 a6 h6 a7 h7 a8 h8 (u0 V t) (v0 V t) (j0 V t) (x0 V) (sum0 V c t.val)
    (rows ⟨t.val, hlt⟩) (adj0 V c) c1 c2 c3 c4 c6 c7 W)
  isplitl [H4]; · iexact H4
  isplitl [H5]; · iexact H5
  isplitl [H6]; · iexact H6
  isplitl [H7]; · iexact H7
  isplitl [H8]; · iexact H8
  isplitl [Hx]; · iexact Hx
  isplitl [HF]; · iexact HF
  isplitl [He]; · iexact He
  isplitl [Hc]; · iexact Hc
  isplitl [Hn]; · rw [slice_held c (adj0 V c) ⟨t.val + 1, hn⟩ (next_odd0 t ho hn)]; iexact Hn
  isplitl [HW]; · iexact HW
  iintro ⟨H4, H5, H6, H7, H8, Hx, ⟨%f, HF⟩, Ho, Hc, Hb, HW⟩
  iapply Hk
  rw [sum0_succ]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [HW]
  · isplitl [Hx]; · iexact Hx
    isplitl [HF]
    · iexists f; rw [← slice_flight c (adj0 V c) ⟨t.val + 1, hn⟩ (next_odd0 t ho hn) (k0_off1_inb _ c2) (fun _ => rfl)]; iexact HF
    isplitl [Ho]; · iexact Ho
    isplitl [Hc]; · iexact Hc
    isplitl [Hb]; · iexact Hb
    iexact Hh
  iexact HW

theorem does0_even (ho : t.val % 2 = 0) (hz : t.val ≠ 0) (hl : t.val ≠ 24) :
    Does0 V c t a2 h2 a3 h3 a4 h4 a5 h5 a6 h6 a7 h7 a8 h8 (owns (c : Thread nD τ) a8 fullShare (sum0 V c t.val)) := by
  obtain ⟨c1, c2, c3, c4, c5, c6⟩ := even0 t ho hz hl
  have hlt : t.val < 25 := t.isLt
  have hn : t.val + 1 < 25 := by omega
  intro W K
  unfold after0
  rw [state0_even c _ _ t.val (Nat.pos_of_ne_zero hz) hlt ho, state0_odd c _ _ (t.val + 1) hn (by omega)]
  unfold toOdd0 toEven0
  rw [home_next c _ (a := ⟨t.val, hlt⟩) (b := ⟨t.val + 1, hn⟩) (fun h => Nat.succ_ne_self t.val (Fin.ext_iff.mp h)),
    home_next c _ (a := ⟨t.val + 1, hn⟩) (b := ⟨t.val, hlt⟩) (fun h => Nat.succ_ne_self t.val (Fin.ext_iff.mp h).symm), Finset.erase_right_comm]
  iintro ⟨H2, H3, H4, H5, H6, H7, H8, ⟨Hx, HF, He, Hc, Hn, Hh⟩, HW, Hk⟩
  iapply (run1_even c (cfg0.grid.coords t) (adj0 V c) a2 h2 a3 h3 a4 h4 a5 h5 a6 h6 a7 h7 a8 h8 (u0 V t) (v0 V t) (j0 V t) (x0 V) (sum0 V c t.val)
    (rows ⟨t.val, hlt⟩) (adj0 V c) c1 c2 c3 c4 c5 c6 W)
  isplitl [H4]; · iexact H4
  isplitl [H5]; · iexact H5
  isplitl [H6]; · iexact H6
  isplitl [H7]; · iexact H7
  isplitl [H8]; · iexact H8
  isplitl [Hx]; · iexact Hx
  isplitl [HF]; · iexact HF
  isplitl [He]; · iexact He
  isplitl [Hc]; · iexact Hc
  isplitl [Hn]; · rw [slice_held c (adj0 V c) ⟨t.val + 1, hn⟩ (next_even0 t ho hn)]; iexact Hn
  isplitl [HW]; · iexact HW
  iintro ⟨H4, H5, H6, H7, H8, Hx, ⟨%f, HF⟩, Ho, Hc, Hb, HW⟩
  iapply Hk
  rw [sum0_succ]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [HW]
  · isplitl [Hx]; · iexact Hx
    isplitl [HF]
    · iexists f; rw [← slice_flight c (adj0 V c) ⟨t.val + 1, hn⟩ (next_even0 t ho hn) (k0_off2_inb _ c3) (fun _ => rfl)]; iexact HF
    isplitl [Ho]; · iexact Ho
    isplitl [Hc]; · iexact Hc
    isplitl [Hb]; · iexact Hb
    iexact Hh
  iexact HW

theorem does0_last (hl : t.val = 24) :
    Does0 V c t a2 h2 a3 h3 a4 h4 a5 h5 a6 h6 a7 h7 a8 h8 (owns (c : Thread nD τ) a8 fullShare (sum0 V c t.val)) := by
  obtain ⟨c1, c2, c3, c4, c5, c6⟩ := last0 t hl
  have hlt : t.val < 25 := t.isLt
  intro W K
  unfold after0
  rw [state0_even c _ _ t.val (by omega) hlt (by omega), show state0 c (adj0 V c) (x0 V) (t.val + 1) = idle0S c (adj0 V c) by rw [hl]; exact state0_end c _ _]
  unfold toEven0 idle0S
  rw [home_out c _ ⟨t.val, hlt⟩]
  iintro ⟨H2, H3, H4, H5, H6, H7, H8, ⟨Hx, HF, Ho, Hc4, Hh⟩, HW, Hk⟩
  iapply (run1_last c (cfg0.grid.coords t) a2 h2 a3 h3 a4 h4 a5 h5 a6 h6 a7 h7 a8 h8 (u0 V t) (v0 V t) (j0 V t) (x0 V) (sum0 V c t.val)
    (rows ⟨t.val, hlt⟩) (adj0 V c) c1 c2 c3 c4 c5 c6 W)
  isplitl [H4]; · iexact H4
  isplitl [H5]; · iexact H5
  isplitl [H6]; · iexact H6
  isplitl [H7]; · iexact H7
  isplitl [H8]; · iexact H8
  isplitl [Hx]; · iexact Hx
  isplitl [HF]; · iexact HF
  isplitl [HW]; · iexact HW
  iintro ⟨H4, H5, H6, H7, H8, Hx, He, Hc3, Hb, HW⟩
  iapply Hk
  rw [sum0_succ]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [HW]
  · isplitl [Hx]; · iexists _; iexact Hx
    isplitl [He]; · iexact He
    isplitl [Ho]; · iexact Ho
    isplitl [Hc3]; · iexact Hc3
    isplitl [Hc4]; · iexact Hc4
    isplitl [Hb]; · iexact Hb
    iexact Hh
  iexact HW

theorem does0_first (hz : t.val = 0) :
    Does0 V c t a2 h2 a3 h3 a4 h4 a5 h5 a6 h6 a7 h7 a8 h8 (iprop(∃ d, owns (c : Thread nD τ) a8 fullShare d)) := by
  obtain rfl : t = pt0 := Fin.ext hz
  obtain ⟨c1, c2, c3, c4, c5, c6⟩ := first0 pt0 rfl
  intro W K
  unfold after0
  rw [show state0 c (adj0 V c) (x0 V) (pt0 : Fin cfg0.N).val = idle0S c (adj0 V c) from state0_zero c _ _,
    show state0 c (adj0 V c) (x0 V) ((pt0 : Fin cfg0.N).val + 1) = toOdd0 c (adj0 V c) (x0 V) 1 from state0_odd c _ _ 1 (by decide) rfl]
  unfold toOdd0 idle0S
  rw [home_out c _ 0, home_next c _ (a := 0) (b := 1) (by decide), home_next c _ (a := 1) (b := 0) (by decide), Finset.erase_right_comm]
  iintro ⟨H2, H3, H4, H5, H6, H7, H8, ⟨Hx, He, Ho, Hc3, Hc4, Hb, Hn, Hh⟩, HW, Hk⟩
  iapply (run1_first c (cfg0.grid.coords pt0) (adj0 V c) a2 h2 a3 h3 a4 h4 a5 h5 a6 h6 a7 h7 a8 h8 (u0 V pt0) (v0 V pt0) (j0 V pt0)
    (e0 V pt0) (w0 V pt0) c1 c2 c3 c4 c5 c6 W)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hx]; · iexact Hx
  isplitl [He]; · iexact He
  isplitl [Ho]; · iexact Ho
  isplitl [Hc3]; · iexact Hc3
  isplitl [Hc4]; · iexact Hc4
  isplitl [Hb]; · rw [slice_held c (adj0 V c) 0 (by decide)]; iexact Hb
  isplitl [Hn]; · rw [slice_held c (adj0 V c) 1 (next_even0 pt0 rfl (by decide))]; iexact Hn
  isplitl [HW]; · iexact HW
  iintro ⟨H2, H3, H4, H5, H6, H7, H8, Hx, ⟨%f, HF⟩, He, Hc3, Hb, HW⟩
  iapply Hk
  rw [sum0_succ]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [HW]
  · isplitl [Hx]; · iexact Hx
    isplitl [HF]
    · iexists f; rw [← slice_flight c (adj0 V c) 1 (next_even0 pt0 rfl (by decide)) (k0_off2_inb _ c3) (fun _ => rfl)]; iexact HF
    isplitl [He]; · iexact He
    isplitl [Hc3]; · iexact Hc3
    isplitl [Hb]; · rw [← slice_held c (adj0 V c) 0 (show ![0, 0] = rowOff 0 by decide) inb_S10000x10000_S400x10000_0_0 (fun _ => rfl)]; iexact Hb
    iexact Hh
  iexact HW

theorem does0_mono {s s' : sProp 𝕄} (hs : s ⊢ s') (h : Does0 V c t a2 h2 a3 h3 a4 h4 a5 h5 a6 h6 a7 h7 a8 h8 s') :
    Does0 V c t a2 h2 a3 h3 a4 h4 a5 h5 a6 h6 a7 h7 a8 h8 s :=
  by
    intro W K
    refine BI.BIBase.Entails.trans ?_ (h W K)
    iintro ⟨H2, H3, H4, H5, H6, H7, H8, Hs, HW, Hk⟩
    isplitl [H2]; · iexact H2
    isplitl [H3]; · iexact H3
    isplitl [H4]; · iexact H4
    isplitl [H5]; · iexact H5
    isplitl [H6]; · iexact H6
    isplitl [H7]; · iexact H7
    isplitl [H8]; · iapply hs; iexact H8
    isplitl [Hs]; · iexact Hs
    isplitl [HW]; · iexact HW
    iexact Hk

/-- The body at any point, the sum's buffer as the pipeline hands it over. -/
theorem does0 : Does0 V c t a2 h2 a3 h3 a4 h4 a5 h5 a6 h6 a7 h7 a8 h8
    (iprop(∃ d, owns (c : Thread nD τ) a8 fullShare ((dat0 V c).before 6 t d))) := by
  by_cases hz : t.val = 0
  · refine does0_mono V c t a2 h2 a3 h3 a4 h4 a5 h5 a6 h6 a7 h7 a8 h8 ?_ (does0_first V c t a2 h2 a3 h3 a4 h4 a5 h5 a6 h6 a7 h7 a8 h8 hz)
    iintro ⟨%d, H⟩; iexists _; iexact H
  have hs : (iprop(∃ d, owns (c : Thread nD τ) a8 fullShare ((dat0 V c).before 6 t d)) : sProp 𝕄) ⊢ owns (c : Thread nD τ) a8 fullShare (sum0 V c t.val) := by
    iintro ⟨%d, H⟩; rw [before0_6 V c t hz]; iexact H
  by_cases ho : t.val % 2 = 1
  · exact does0_mono V c t a2 h2 a3 h3 a4 h4 a5 h5 a6 h6 a7 h7 a8 h8 hs (does0_odd V c t a2 h2 a3 h3 a4 h4 a5 h5 a6 h6 a7 h7 a8 h8 ho)
  by_cases hl : t.val = 24
  · exact does0_mono V c t a2 h2 a3 h3 a4 h4 a5 h5 a6 h6 a7 h7 a8 h8 hs (does0_last V c t a2 h2 a3 h3 a4 h4 a5 h5 a6 h6 a7 h7 a8 h8 hl)
  exact does0_mono V c t a2 h2 a3 h3 a4 h4 a5 h5 a6 h6 a7 h7 a8 h8 hs
    (does0_even V c t a2 h2 a3 h3 a4 h4 a5 h5 a6 h6 a7 h7 a8 h8 (by omega) hz hl)

end Points

theorem body0 (c : Dev nD) : BodyObligation (dat0 V c) (defs₀ (F := F)) Variants.none () Set.univ := fun t => by
  rw [bigSep_W0, bigSep_W0, defs_row0]
  dsimp only
  rw [show idle0 5 (grid0.coords t) = false from live0_5 _, show idle0 6 (grid0.coords t) = false from live0_6 _]
  dsimp only
  simp only [before0_0, before0_1, before0_2, before0_3, before0_4]
  rw [rest0_castSucc, rest0_succ]
  unfold rest0
  iintro ⟨⟨Hs, Hrest, Hprng⟩, ⟨%W, %hW, HO⟩, ⟨%d0, H0⟩, ⟨%d1, H1⟩, ⟨%d2, H2⟩, ⟨%d3, H3⟩, ⟨%d4, H4⟩, ⟨%d5, H5⟩, H6⟩
  iapply (does0 V c t _ _ _ _ _ _ _ _ _ _ _ _ _ _ W)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [Hs]; · iexact Hs
  isplitl [HO]; · iexact HO
  iintro ⟨H0, H1, H2, H3, H4, H5, H6, Hs, ⟨%W', HO⟩⟩
  isplitl [Hs Hrest Hprng]
  · isplitl [Hs]; · iexact Hs
    isplitl [Hrest]; · iexact Hrest
    iexact Hprng
  isplitl [HO]; · iapply (owes_any V c t.succ W'); iexact HO
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand
-- ==== Proof.Ideal.Mid.lean ====
/-
  The second kernel call, first layer's closing step, five blocks of 2000 nodes: what one block's body stores (`mid_run`),
  the proof data over the arrays' contents at entry (`dat1`), and the body's obligation at every point (`body1`).
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The body on whole buffers: from the block `p` of pooled rows, the two weights of the gate, the pooled matrix `hi` and
    the layer's weight `w`, it leaves the normalised block, its soft-maximum and the next layer's operand. -/
theorem mid_run (c : Dev nD) (i : grid1.Coords)
    (a1 : Memref sig .tc .vmem S2000x100 .f32) (h1 : a1.IsWhole) (a2 : Memref sig .tc .vmem S100x100 .f32) (h2 : a2.IsWhole)
    (a3 : Memref sig .tc .vmem S100x100 .f32) (h3 : a3.IsWhole) (a4 : Memref sig .tc .vmem S100x100 .f32) (h4 : a4.IsWhole)
    (a5 : Memref sig .tc .vmem S100x100 .f32) (h5 : a5.IsWhole) (a6 : Memref sig .tc .vmem S2000x100 .f32) (h6 : a6.IsWhole)
    (a7 : Memref sig .tc .vmem S2000x100 .f32) (h7 : a7.IsWhole) (a8 : Memref sig .tc .vmem S2000x100 .f32) (h8 : a8.IsWhole)
    (p : Vec F S2000x100 .f32) (w1 w2 hi w : Vec F S100x100 .f32) (K : PUnit → sProp 𝕄) :
    iprop(owns (c : Thread nD τ) a1 fullShare p ∗ owns (c : Thread nD τ) a2 fullShare w1 ∗ owns (c : Thread nD τ) a3 fullShare w2
        ∗ owns (c : Thread nD τ) a4 fullShare hi ∗ owns (c : Thread nD τ) a5 fullShare w
        ∗ (∃ d, owns (c : Thread nD τ) a6 fullShare d) ∗ (∃ d, owns (c : Thread nD τ) a7 fullShare d)
        ∗ (∃ d, owns (c : Thread nD τ) a8 fullShare d)
        ∗ (iprop(owns (c : Thread nD τ) a1 fullShare p ∗ owns (c : Thread nD τ) a2 fullShare w1 ∗ owns (c : Thread nD τ) a3 fullShare w2
            ∗ owns (c : Thread nD τ) a4 fullShare hi ∗ owns (c : Thread nD τ) a5 fullShare w
            ∗ owns (c : Thread nD τ) a6 fullShare (k1_pay6 p w1 w2 hi)
            ∗ owns (c : Thread nD τ) a7 fullShare (k1_pay1 (k1_pay4 p w1 w2 hi) (k1_pay7 p w1 w2 hi))
            ∗ owns (c : Thread nD τ) a8 fullShare (k1_pay2 (k1_pay5 p w1 w2 hi) w)) -∗ K ⟨⟩))
      ⊢ wp frame (wpE (defs₀ (F := F)) Variants.none c none) Set.univ
          (cc1__tail_mid_body i a1 h1 a2 h2 a3 h3 a4 h4 a5 h5 a6 h6 a7 h7 a8 h8) K := by
  rw [cc1__tail_mid_body_eq_skeleton]; unfold cc1__tail_mid_body_skel
  rw [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]
  · iexists _; isplitr; swap; (· iexact H6); ipureintro
    rw [stored_all _ at_zero, load_all _ at_zero, load_all _ at_zero, load_all _ at_zero, load_all _ at_zero, e1, e2, e3, e4]
  isplitl [H7]
  · iexists _; isplitr; swap; (· iexact H7); ipureintro
    rw [stored_all _ at_zero, load_all _ at_zero, load_all _ at_zero, load_all _ at_zero, load_all _ at_zero, e1, e2, e3, e4]
  iexists _; isplitr; swap; (· iexact H8); ipureintro
  rw [stored_all _ at_zero, load_all _ at_zero, load_all _ at_zero, load_all _ at_zero, load_all _ at_zero, load_all _ at_zero, e1, e2, e3, e4, e5]

/-! ## The proof data -/

variable (V : Valuation τ sig (Elt F))

/-- Window `w`'s block at point `t`, read off the arrays' contents `V`. -/
def in1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

abbrev p1 (t : Fin cfg1.N) : Vec F S2000x100 .f32 := in1 V 0 t
abbrev u1 (t : Fin cfg1.N) : Vec F S100x100 .f32 := in1 V 1 t
abbrev v1 (t : Fin cfg1.N) : Vec F S100x100 .f32 := in1 V 2 t
abbrev hi1 (t : Fin cfg1.N) : Vec F S100x100 .f32 := in1 V 3 t
abbrev w1 (t : Fin cfg1.N) : Vec F S100x100 .f32 := in1 V 4 t

/-- What the three results' blocks hold after point `t`. -/
def out1_5 (t : Fin cfg1.N) : Vec F S2000x100 .f32 := k1_pay6 (p1 V t) (u1 V t) (v1 V t) (hi1 V t)
def out1_6 (t : Fin cfg1.N) : Vec F S2000x100 .f32 :=
  k1_pay1 (k1_pay4 (p1 V t) (u1 V t) (v1 V t) (hi1 V t)) (k1_pay7 (p1 V t) (u1 V t) (v1 V t) (hi1 V t))
def out1_7 (t : Fin cfg1.N) : Vec F S2000x100 .f32 := k1_pay2 (k1_pay5 (p1 V t) (u1 V t) (v1 V t) (hi1 V t)) (w1 V t)

/-- What lies beside the windows throughout: the buffers that no window stages, and the generator's register. -/
def rest1 (c : Dev nD) : sProp 𝕄 :=
  iprop(Pipeline.scopedRest (Ix := Unit) (Name := ℕ) (U := Pipeline.UD sig nD τ) (Lvl := ℕ) (Val := Elt F) spec1 c ∗ ∃ r, prngReg c r)

/-- The proof data over the entry contents `V`: every input window holds its block, every result what the point stored. -/
def dat1 (c : Dev nD) : Dat τ (Elt F) Unit ℕ (Pipeline.UD sig nD τ) ℕ cfg1 c where
  A w := V (Proc.devRef .tc (Pipeline.arrRef spec1 w))
  after w t := match w with
    | ⟨0, _⟩ => p1 V t
    | ⟨1, _⟩ => u1 V t
    | ⟨2, _⟩ => v1 V t
    | ⟨3, _⟩ => hi1 V t
    | ⟨4, _⟩ => w1 V t
    | ⟨5, _⟩ => out1_5 V t
    | ⟨6, _⟩ => out1_6 V t
    | ⟨7, _⟩ => out1_7 V t
  Φ _ := rest1 c
  q _ := fullShare
  owed _ := 0

theorem before1_0 (c : Dev nD) (t : Fin cfg1.N) (d) : (dat1 V c).before 0 t d = p1 V t :=
  (dat1 V c).before_in_eq_fetched 0 rfl (fun _ => rfl) (fun _ _ _ => rfl) (fun _ => rfl) t d
theorem before1_1 (c : Dev nD) (t : Fin cfg1.N) (d) : (dat1 V c).before 1 t d = u1 V t :=
  (dat1 V c).before_in_eq_fetched 1 rfl (fun _ => rfl) (fun _ _ _ => rfl) (fun _ => rfl) t d
theorem before1_2 (c : Dev nD) (t : Fin cfg1.N) (d) : (dat1 V c).before 2 t d = v1 V t :=
  (dat1 V c).before_in_eq_fetched 2 rfl (fun _ => rfl) (fun _ _ _ => rfl) (fun _ => rfl) t d
theorem before1_3 (c : Dev nD) (t : Fin cfg1.N) (d) : (dat1 V c).before 3 t d = hi1 V t :=
  (dat1 V c).before_in_eq_fetched 3 rfl (fun _ => rfl) (fun _ _ _ => rfl) (fun _ => rfl) t d
theorem before1_4 (c : Dev nD) (t : Fin cfg1.N) (d) : (dat1 V c).before 4 t d = w1 V t :=
  (dat1 V c).before_in_eq_fetched 4 rfl (fun _ => rfl) (fun _ _ _ => rfl) (fun _ => rfl) t d

/-- The defining row of the pipeline's body at point `t`. -/
theorem defs_row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) Variants.none () Set.univ := fun t => by
  rw [bigSep_W1, bigSep_W1, defs_row1]
  dsimp only
  simp only [before1_0, before1_1, before1_2, before1_3, before1_4]
  rw [show (dat1 V c).Φ t.castSucc = rest1 c from rfl, show (dat1 V c).Φ t.succ = rest1 c from rfl,
    show (dat1 V c).owesAt () t.succ = (dat1 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (mid_run c _ _ _ _ _ _ _ _ _ _ _ _ _ _ _ _ _ (p1 V t) (u1 V t) (v1 V t) (hi1 V t) (w1 V t))
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.KernelIdeal.Hand
-- ==== Proof.Ideal.Pass2Run.lean ====
/-
  The second pass over the adjacency matrix: what its body does at one of the 25 points, of the same four kinds as in the
  first pass. The operand of the products is read from a window here.
-/
module

public import proofs.«01_k».proof.Proof.Ideal.Adj

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev even2M : Memref sig .tc .vmem S400x10000 .f32 := Memref.whole cc2_scratch0
abbrev odd2M : Memref sig .tc .vmem S400x10000 .f32 := Memref.whole cc2_scratch1

/-- The comparison of the point's number with zero, as the body makes it. -/
abbrev isFirst2 (i : grid2.Coords) : BitVec 1 :=
  Scalar.cmpi .ne (Scalar.extui (Scalar.cmpi .eq (BitVec.ofNat 32 (i 0).val) 0#32)) 0#32

section Runs

variable (c : Dev nD) (i : grid2.Coords) (A : Buf (Elt F) (adjM.view.loc (c : Thread nD τ)))
  (a2 : Memref sig .tc .vmem S10000x100 .f32) (h2 : a2.IsWhole) (a3 : Memref sig .tc .vmem S100x100 .f32) (h3 : a3.IsWhole)
  (a4 : Memref sig .tc .vmem S100x100 .f32) (h4 : a4.IsWhole) (a5 : Memref sig .tc .vmem S400x1 .f32) (h5 : a5.IsWhole)
  (a6 : Memref sig .tc .vmem S400x100 .f32) (h6 : a6.IsWhole) (a7 : Memref sig .tc .vmem S100x100 .f32) (h7 : a7.IsWhole)
  (x : Vec F S10000x100 .f32) (w1 w2 : Vec F S100x100 .f32) (adj : Vec F S400x1 .f32)

/-- The body at a point. -/
abbrev pass2 : Prog (TpuEff nD τ sig (Elt F) Λ₀ .tc) PUnit :=
  cc2__pass2_body i adjM (Memref.isWhole_whole _) a2 h2 a3 h3 a4 h4 a5 h5 a6 h6 a7 h7
    even2M (Memref.isWhole_whole _) odd2M (Memref.isWhole_whole _) cc2_scratch2 cc2_scratch3

/-- At a point of odd number: the block in flight to the odd buffer is awaited and used, and the next block's copy to the
    even buffer is begun. -/
theorem run2_odd (acc : Vec F S100x100 .f32) (s : Memref sig .tc .hbm S400x10000 .f32)
    (As : Buf (Elt F) (s.view.loc (c : Thread nD τ)))
    (c1 : ¬ isFirst2 i = 1#1) (c2 : k2_cond2 i = 1#1) (c3 : ¬ k2_cond3 i = 1#1) (c4 : ¬ k2_cond4 i = 1#1) (c6 : k2_cond6 i = 1#1) (c7 : ¬ k2_cond7 i = 1#1)
    (W : Waits sig Unit) (K : PUnit → sProp 𝕄) :
    iprop(owns (c : Thread nD τ) a2 fullShare x
        ∗ owns (c : Thread nD τ) a3 fullShare w1
        ∗ owns (c : Thread nD τ) a4 fullShare w2
        ∗ owns (c : Thread nD τ) a5 fullShare adj
        ∗ (∃ d, owns (c : Thread nD τ) a6 fullShare d)
        ∗ owns (c : Thread nD τ) a7 fullShare acc
        ∗ (∃ f, flight c cc2_scratch3.sem odd2M s As f)
        ∗ (∃ f, even2M.view.loc (c : Thread nD τ) ↦[even2M.view.set]{fullShare} f)
        ∗ semVal ((c : Thread nD τ), SemLoc.dma cc2_scratch2.sem) 0
        ∗ heldRows c (adjM.slice (Rect.unit (s := S10000x10000) (k2_off1 i) S400x10000.size (k2_off1_inb i c2)) (fun _ => rfl)) A
        ∗ owes (c : Thread nD τ) 0 W
        ∗ (iprop(owns (c : Thread nD τ) a2 fullShare x
            ∗ owns (c : Thread nD τ) a3 fullShare w1
            ∗ owns (c : Thread nD τ) a4 fullShare w2
            ∗ owns (c : Thread nD τ) a5 fullShare adj
            ∗ owns (c : Thread nD τ) a6 fullShare (k2_pay7 (s.view.read (Elt F) As) x)
            ∗ owns (c : Thread nD τ) a7 fullShare (k2_pay4 (k2_pay7 (s.view.read (Elt F) As) x) (k2_pay8 (s.view.read (Elt F) As) x w1 w2 adj) acc)
            ∗ (∃ f, flight c cc2_scratch2.sem even2M (adjM.slice (Rect.unit (s := S10000x10000) (k2_off1 i) S400x10000.size (k2_off1_inb i c2)) (fun _ => rfl)) A f)
            ∗ (∃ f, odd2M.view.loc (c : Thread nD τ) ↦[odd2M.view.set]{fullShare} f)
            ∗ semVal ((c : Thread nD τ), SemLoc.dma cc2_scratch3.sem) 0
            ∗ heldRows c s As
            ∗ (∃ W', owes (c : Thread nD τ) 0 W')) -∗ K ⟨⟩))
      ⊢ wp frame (wpE (defs₀ (F := F)) Variants.none c none) Set.univ (pass2 i a2 h2 a3 h3 a4 h4 a5 h5 a6 h6 a7 h7) K := by
  rw [pass2, cc2__pass2_body_eq_skeleton]; unfold cc2__pass2_body_skel
  conv in wp _ _ _ _ _ => simp only [k2_part3_eq_skeleton, k2_part1_eq_skeleton, k2_part2_eq_skeleton]
  unfold k2_part3_skel k2_part2_skel
  conv in wp _ _ _ _ _ => simp only [dif_neg c1, dif_pos c2, dif_neg c3, dif_neg c4, dif_pos c6, dif_neg c7]
  unfold owns
  iintro ⟨⟨%fx, %ex, Hx⟩, ⟨%f4, %e4, H4⟩, ⟨%f5, %e5, H5⟩, ⟨%f6, %e6, H6⟩, ⟨%d7, %f7, -, H7⟩, ⟨%f8, %e8, H8⟩, ⟨%ff, HF⟩, ⟨%fe, He⟩, Hc, Hr, HW, Hk⟩
  sl_exec
  sl_step
  iapply Hk
  isplitl [Hx]; · iexists fx; isplitr; swap; (· iexact Hx); ipureintro; exact ex
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run2_odd.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run2_odd.sl.v62; rw [loaded_copy _ at_zero]
  isplitl [Hc]; · iexists fe; iexact Hc
  isplitl [HF_dst]; · iexists _; iexact HF_dst
  isplitl [HF]; · iexact HF
  isplitl [HF_src]; · iexact HF_src
  iexists _; iexact HW

/-- At a later point of even number, the last one aside: the same with the two buffers exchanged. -/
theorem run2_even (acc : Vec F S100x100 .f32) (s : Memref sig .tc .hbm S400x10000 .f32)
    (As : Buf (Elt F) (s.view.loc (c : Thread nD τ)))
    (c1 : ¬ isFirst2 i = 1#1) (c2 : ¬ k2_cond2 i = 1#1) (c3 : k2_cond3 i = 1#1) (c4 : k2_cond4 i = 1#1) (c5 : ¬ k2_cond5 i = 1#1) (c6 : ¬ k2_cond6 i = 1#1)
    (W : Waits sig Unit) (K : PUnit → sProp 𝕄) :
    iprop(owns (c : Thread nD τ) a2 fullShare x
        ∗ owns (c : Thread nD τ) a3 fullShare w1
        ∗ owns (c : Thread nD τ) a4 fullShare w2
        ∗ owns (c : Thread nD τ) a5 fullShare adj
        ∗ (∃ d, owns (c : Thread nD τ) a6 fullShare d)
        ∗ owns (c : Thread nD τ) a7 fullShare acc
        ∗ (∃ f, flight c cc2_scratch2.sem even2M s As f)
        ∗ (∃ f, odd2M.view.loc (c : Thread nD τ) ↦[odd2M.view.set]{fullShare} f)
        ∗ semVal ((c : Thread nD τ), SemLoc.dma cc2_scratch3.sem) 0
        ∗ heldRows c (adjM.slice (Rect.unit (s := S10000x10000) (k2_off2 i) S400x10000.size (k2_off2_inb i c3)) (fun _ => rfl)) A
        ∗ owes (c : Thread nD τ) 0 W
        ∗ (iprop(owns (c : Thread nD τ) a2 fullShare x
            ∗ owns (c : Thread nD τ) a3 fullShare w1
            ∗ owns (c : Thread nD τ) a4 fullShare w2
            ∗ owns (c : Thread nD τ) a5 fullShare adj
            ∗ owns (c : Thread nD τ) a6 fullShare (k2_pay5 (s.view.read (Elt F) As) x)
            ∗ owns (c : Thread nD τ) a7 fullShare (k2_pay2 (k2_pay5 (s.view.read (Elt F) As) x) (k2_pay6 (s.view.read (Elt F) As) x w1 w2 adj) acc)
            ∗ (∃ f, flight c cc2_scratch3.sem odd2M (adjM.slice (Rect.unit (s := S10000x10000) (k2_off2 i) S400x10000.size (k2_off2_inb i c3)) (fun _ => rfl)) A f)
            ∗ (∃ f, even2M.view.loc (c : Thread nD τ) ↦[even2M.view.set]{fullShare} f)
            ∗ semVal ((c : Thread nD τ), SemLoc.dma cc2_scratch2.sem) 0
            ∗ heldRows c s As
            ∗ (∃ W', owes (c : Thread nD τ) 0 W')) -∗ K ⟨⟩))
      ⊢ wp frame (wpE (defs₀ (F := F)) Variants.none c none) Set.univ (pass2 i a2 h2 a3 h3 a4 h4 a5 h5 a6 h6 a7 h7) K := by
  rw [pass2, cc2__pass2_body_eq_skeleton]; unfold cc2__pass2_body_skel
  conv in wp _ _ _ _ _ => simp only [k2_part3_eq_skeleton, k2_part1_eq_skeleton, k2_part2_eq_skeleton]
  unfold k2_part3_skel k2_part1_skel
  conv in wp _ _ _ _ _ => simp only [dif_neg c1, dif_neg c2, dif_pos c3, dif_pos c4, dif_neg c5, dif_neg c6]
  unfold owns
  iintro ⟨⟨%fx, %ex, Hx⟩, ⟨%f4, %e4, H4⟩, ⟨%f5, %e5, H5⟩, ⟨%f6, %e6, H6⟩, ⟨%d7, %f7, -, H7⟩, ⟨%f8, %e8, H8⟩, ⟨%ff, HF⟩, ⟨%fe, He⟩, Hc, Hr, HW, Hk⟩
  sl_exec
  sl_step
  iapply Hk
  isplitl [Hx]; · iexists fx; isplitr; swap; (· iexact Hx); ipureintro; exact ex
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run2_even.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run2_even.sl.v62; rw [loaded_copy _ at_zero]
  isplitl [Hc]; · iexists fe; iexact Hc
  isplitl [HF_dst]; · iexists _; iexact HF_dst
  isplitl [HF]; · iexact HF
  isplitl [HF_src]; · iexact HF_src
  iexists _; iexact HW

/-- At the last point, of even number: nothing more is begun. -/
theorem run2_last (acc : Vec F S100x100 .f32) (s : Memref sig .tc .hbm S400x10000 .f32)
    (As : Buf (Elt F) (s.view.loc (c : Thread nD τ)))
    (c1 : ¬ isFirst2 i = 1#1) (c2 : ¬ k2_cond2 i = 1#1) (c3 : ¬ k2_cond3 i = 1#1) (c4 : k2_cond4 i = 1#1) (c5 : ¬ k2_cond5 i = 1#1) (c6 : ¬ k2_cond6 i = 1#1)
    (W : Waits sig Unit) (K : PUnit → sProp 𝕄) :
    iprop(owns (c : Thread nD τ) a2 fullShare x
        ∗ owns (c : Thread nD τ) a3 fullShare w1
        ∗ owns (c : Thread nD τ) a4 fullShare w2
        ∗ owns (c : Thread nD τ) a5 fullShare adj
        ∗ (∃ d, owns (c : Thread nD τ) a6 fullShare d)
        ∗ owns (c : Thread nD τ) a7 fullShare acc
        ∗ (∃ f, flight c cc2_scratch2.sem even2M s As f)
        ∗ owes (c : Thread nD τ) 0 W
        ∗ (iprop(owns (c : Thread nD τ) a2 fullShare x
            ∗ owns (c : Thread nD τ) a3 fullShare w1
            ∗ owns (c : Thread nD τ) a4 fullShare w2
            ∗ owns (c : Thread nD τ) a5 fullShare adj
            ∗ owns (c : Thread nD τ) a6 fullShare (k2_pay5 (s.view.read (Elt F) As) x)
            ∗ owns (c : Thread nD τ) a7 fullShare (k2_pay2 (k2_pay5 (s.view.read (Elt F) As) x) (k2_pay6 (s.view.read (Elt F) As) x w1 w2 adj) acc)
            ∗ (∃ f, even2M.view.loc (c : Thread nD τ) ↦[even2M.view.set]{fullShare} f)
            ∗ semVal ((c : Thread nD τ), SemLoc.dma cc2_scratch2.sem) 0
            ∗ heldRows c s As
            ∗ (∃ W', owes (c : Thread nD τ) 0 W')) -∗ K ⟨⟩))
      ⊢ wp frame (wpE (defs₀ (F := F)) Variants.none c none) Set.univ (pass2 i a2 h2 a3 h3 a4 h4 a5 h5 a6 h6 a7 h7) K := by
  rw [pass2, cc2__pass2_body_eq_skeleton]; unfold cc2__pass2_body_skel
  conv in wp _ _ _ _ _ => simp only [k2_part3_eq_skeleton, k2_part1_eq_skeleton, k2_part2_eq_skeleton]
  unfold k2_part3_skel k2_part1_skel
  conv in wp _ _ _ _ _ => simp only [dif_neg c1, dif_neg c2, dif_neg c3, dif_pos c4, dif_neg c5, dif_neg c6]
  unfold owns
  iintro ⟨⟨%fx, %ex, Hx⟩, ⟨%f4, %e4, H4⟩, ⟨%f5, %e5, H5⟩, ⟨%f6, %e6, H6⟩, ⟨%d7, %f7, -, H7⟩, ⟨%f8, %e8, H8⟩, ⟨%ff, HF⟩, HW, Hk⟩
  sl_exec
  sl_step
  iapply Hk
  isplitl [Hx]; · iexists fx; isplitr; swap; (· iexact Hx); ipureintro; exact ex
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]
  · iexists _; isplitr; swap; (· iexact H7); ipureintro
    rw [stored_all _ at_zero, load_all _ at_zero, ex]
    unfold run2_last.sl.v62; rw [loaded_copy _ at_zero]
  isplitl [H8]
  · iexists _; isplitr; swap; (· iexact H8); ipureintro
    rw [stored_all _ at_zero]; dsimp only
    rw [load_all _ at_zero, load_all _ at_zero, load_all _ at_zero, load_all _ at_zero, load_all _ at_zero, ex, e4, e5, e6, e8]
    unfold run2_last.sl.v62; rw [loaded_copy _ at_zero]
  isplitl [HF_dst]; · iexists _; iexact HF_dst
  isplitl [HF]; · iexact HF
  isplitl [HF_src]; · iexact HF_src
  iexists _; iexact HW

/-- At the first point: the first block's copy is begun, the second block's copy is
    begun, and the first block is awaited and used; the sum starts from zero. -/
theorem run2_first
    (c1 : isFirst2 i = 1#1) (c2 : ¬ k2_cond2 i = 1#1) (c3 : k2_cond3 i = 1#1) (c4 : k2_cond4 i = 1#1) (c5 : k2_cond5 i = 1#1) (c6 : ¬ k2_cond6 i = 1#1)
    (W : Waits sig Unit) (K : PUnit → sProp 𝕄) :
    iprop(owns (c : Thread nD τ) a2 fullShare x
        ∗ owns (c : Thread nD τ) a3 fullShare w1
        ∗ owns (c : Thread nD τ) a4 fullShare w2
        ∗ owns (c : Thread nD τ) a5 fullShare adj
        ∗ (∃ d, owns (c : Thread nD τ) a6 fullShare d)
        ∗ (∃ d, owns (c : Thread nD τ) a7 fullShare d)
        ∗ (∃ f, even2M.view.loc (c : Thread nD τ) ↦[even2M.view.set]{fullShare} f)
        ∗ (∃ f, odd2M.view.loc (c : Thread nD τ) ↦[odd2M.view.set]{fullShare} f)
        ∗ semVal ((c : Thread nD τ), SemLoc.dma cc2_scratch2.sem) 0
        ∗ semVal ((c : Thread nD τ), SemLoc.dma cc2_scratch3.sem) 0
        ∗ heldRows c (adjM.slice (Rect.unit (s := S10000x10000) ![0, 0] S400x10000.size inb_S10000x10000_S400x10000_0_0) (fun _ => rfl)) A
        ∗ heldRows c (adjM.slice (Rect.unit (s := S10000x10000) (k2_off2 i) S400x10000.size (k2_off2_inb i c3)) (fun _ => rfl)) A
        ∗ owes (c : Thread nD τ) 0 W
        ∗ (iprop(owns (c : Thread nD τ) a2 fullShare x
            ∗ owns (c : Thread nD τ) a3 fullShare w1
            ∗ owns (c : Thread nD τ) a4 fullShare w2
            ∗ owns (c : Thread nD τ) a5 fullShare adj
            ∗ owns (c : Thread nD τ) a6 fullShare (k2_pay5 ((adjM.slice (Rect.unit (s := S10000x10000) ![0, 0] S400x10000.size inb_S10000x10000_S400x10000_0_0) (fun _ => rfl)).view.read (Elt F) A) x)
            ∗ owns (c : Thread nD τ) a7 fullShare (k2_pay2 (k2_pay5 ((adjM.slice (Rect.unit (s := S10000x10000) ![0, 0] S400x10000.size inb_S10000x10000_S400x10000_0_0) (fun _ => rfl)).view.read (Elt F) A) x) (k2_pay6 ((adjM.slice (Rect.unit (s := S10000x10000) ![0, 0] S400x10000.size inb_S10000x10000_S400x10000_0_0) (fun _ => rfl)).view.read (Elt F) A) x w1 w2 adj) k2_pay1)
            ∗ (∃ f, flight c cc2_scratch3.sem odd2M (adjM.slice (Rect.unit (s := S10000x10000) (k2_off2 i) S400x10000.size (k2_off2_inb i c3)) (fun _ => rfl)) A f)
            ∗ (∃ f, even2M.view.loc (c : Thread nD τ) ↦[even2M.view.set]{fullShare} f)
            ∗ semVal ((c : Thread nD τ), SemLoc.dma cc2_scratch2.sem) 0
            ∗ heldRows c (adjM.slice (Rect.unit (s := S10000x10000) ![0, 0] S400x10000.size inb_S10000x10000_S400x10000_0_0) (fun _ => rfl)) A
            ∗ (∃ W', owes (c : Thread nD τ) 0 W')) -∗ K ⟨⟩))
      ⊢ wp frame (wpE (defs₀ (F := F)) Variants.none c none) Set.univ (pass2 i a2 h2 a3 h3 a4 h4 a5 h5 a6 h6 a7 h7) K := by
  rw [pass2, cc2__pass2_body_eq_skeleton]; unfold cc2__pass2_body_skel
  conv in wp _ _ _ _ _ => simp only [k2_part3_eq_skeleton, k2_part1_eq_skeleton, k2_part2_eq_skeleton]
  unfold k2_part3_skel k2_part1_skel
  conv in wp _ _ _ _ _ => simp only [dif_pos c1, dif_neg c2, dif_pos c3, dif_pos c4, dif_pos c5, dif_neg c6]
  unfold owns
  iintro ⟨⟨%fx, %ex, Hx⟩, ⟨%f4, %e4, H4⟩, ⟨%f5, %e5, H5⟩, ⟨%f6, %e6, H6⟩, ⟨%d7, %f7, -, H7⟩, ⟨%d8, %f8, -, H8⟩, ⟨%fe, He⟩, ⟨%fo, Ho⟩, Hc3, Hc4, Hr0, Hr, HW, Hk⟩
  sl_exec
  sl_step
  iapply Hk
  isplitl [Hx]; · iexists fx; isplitr; swap; (· iexact Hx); ipureintro; exact ex
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  have hb : run2_first.sl.v62 c A = (adjM.slice (Rect.unit (s := S10000x10000) ![0, 0] S400x10000.size inb_S10000x10000_S400x10000_0_0) (fun _ => rfl)).view.read (Elt F) A := by
    unfold run2_first.sl.v62; rw [loaded_copy _ at_zero]; rfl
  isplitl [H7]
  · iexists _; isplitr; swap; (· iexact H7); ipureintro
    rw [stored_all _ at_zero, hb, load_all _ at_zero, ex]
  isplitl [H8]
  · iexists _; isplitr; swap; (· iexact H8); ipureintro
    rw [stored_all _ at_zero]; dsimp only
    rw [load_all _ at_zero, load_all _ at_zero, load_all _ at_zero, load_all _ at_zero, ex, e4, e5, e6, hb]
    unfold run2_first.sl.v96 run2_first.sl.H8_1
    rw [loaded_all _ at_zero at_zero]
  isplitl [Hc4]; · iexists fo; iexact Hc4
  isplitl [He]; · iexists _; iexact He
  isplitl [Hc3]; · iexact Hc3
  isplitl [Hr0]; · iexact Hr0
  iexists _; iexact HW

end Runs

end Cert.KernelIdeal.Hand
-- ==== Proof.Ideal.Pass2Facts.lean ====
/-
  The third kernel call over its 25 points: the contents of its windows and of its two buffers from point to point
  (`dat2`), and the body's obligation at every point (`body2`).
-/
module

public import proofs.«01_k».proof.Proof.Ideal.Pass2Run

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## What the point's number decides -/

/-- The number of a point as a block's number. -/
abbrev blk2 (t : Fin cfg2.N) : Fin 25 := ⟨t.val, t.isLt⟩

theorem first2 : ∀ t : Fin cfg2.N, t.val = 0 → isFirst2 (cfg2.grid.coords t) = 1#1 ∧ ¬ k2_cond2 (cfg2.grid.coords t) = 1#1
    ∧ k2_cond3 (cfg2.grid.coords t) = 1#1 ∧ k2_cond4 (cfg2.grid.coords t) = 1#1 ∧ k2_cond5 (cfg2.grid.coords t) = 1#1
    ∧ ¬ k2_cond6 (cfg2.grid.coords t) = 1#1 := by
  show ∀ t : Fin grid2.N, _
  decide

theorem odd2 : ∀ t : Fin cfg2.N, t.val % 2 = 1 → ¬ isFirst2 (cfg2.grid.coords t) = 1#1 ∧ k2_cond2 (cfg2.grid.coords t) = 1#1
    ∧ ¬ k2_cond3 (cfg2.grid.coords t) = 1#1 ∧ ¬ k2_cond4 (cfg2.grid.coords t) = 1#1 ∧ k2_cond6 (cfg2.grid.coords t) = 1#1
    ∧ ¬ k2_cond7 (cfg2.grid.coords t) = 1#1 := by
  show ∀ t : Fin grid2.N, _
  decide

theorem even2 : ∀ t : Fin cfg2.N, t.val % 2 = 0 → t.val ≠ 0 → t.val ≠ 24 → ¬ isFirst2 (cfg2.grid.coords t) = 1#1
    ∧ ¬ k2_cond2 (cfg2.grid.coords t) = 1#1 ∧ k2_cond3 (cfg2.grid.coords t) = 1#1 ∧ k2_cond4 (cfg2.grid.coords t) = 1#1
    ∧ ¬ k2_cond5 (cfg2.grid.coords t) = 1#1 ∧ ¬ k2_cond6 (cfg2.grid.coords t) = 1#1 := by
  show ∀ t : Fin grid2.N, _
  decide

theorem last2 : ∀ t : Fin cfg2.N, t.val = 24 → ¬ isFirst2 (cfg2.grid.coords t) = 1#1 ∧ ¬ k2_cond2 (cfg2.grid.coords t) = 1#1
    ∧ ¬ k2_cond3 (cfg2.grid.coords t) = 1#1 ∧ k2_cond4 (cfg2.grid.coords t) = 1#1 ∧ ¬ k2_cond5 (cfg2.grid.coords t) = 1#1
    ∧ ¬ k2_cond6 (cfg2.grid.coords t) = 1#1 := by
  show ∀ t : Fin grid2.N, _
  decide

/-- The slice whose copy a point of odd number begins is the next block. -/
theorem next_odd2 : ∀ t : Fin cfg2.N, t.val % 2 = 1 → ∀ h : t.val + 1 < 25, k2_off1 (cfg2.grid.coords t) = rowOff ⟨t.val + 1, h⟩ := by
  show ∀ t : Fin grid2.N, _
  decide

/-- The slice whose copy a point of even number begins is the next block. -/
theorem next_even2 : ∀ t : Fin cfg2.N, t.val % 2 = 0 → ∀ h : t.val + 1 < 25, k2_off2 (cfg2.grid.coords t) = rowOff ⟨t.val + 1, h⟩ := by
  show ∀ t : Fin grid2.N, _
  decide

/-- Both results are written at every point. -/
theorem live2_4 : ∀ i : grid2.Coords, cfg2.idle 4 i = false := by
  show ∀ i : grid2.Coords, idle2 4 i = false
  decide
theorem live2_5 : ∀ i : grid2.Coords, cfg2.idle 5 i = false := by
  show ∀ i : grid2.Coords, idle2 5 i = false
  decide

end Cert.KernelIdeal.Hand
-- ==== Proof.Ideal.Pass2.lean ====
/-
  The third kernel call over its 25 points: the contents of its windows and of its two buffers from point to point
  (`dat2`), and the body's obligation at every point (`body2`).
-/
module

public import proofs.«01_k».proof.Proof.Ideal.Pass2Facts

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Values

variable (V : Valuation τ sig (Elt F))

/-- The first point. -/
abbrev pt2 : Fin cfg2.N := ⟨0, by decide⟩

/-- Window `w`'s block at point `t`, read off the arrays' contents `V`. -/
def in2 (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

abbrev x2 (t : Fin cfg2.N) : Vec F S10000x100 .f32 := in2 V 0 t
abbrev u2 (t : Fin cfg2.N) : Vec F S100x100 .f32 := in2 V 1 t
abbrev v2 (t : Fin cfg2.N) : Vec F S100x100 .f32 := in2 V 2 t
abbrev j2 (t : Fin cfg2.N) : Vec F S400x1 .f32 := in2 V 3 t

/-- The pooled rows of a point, and their gated and weighted values. -/
def out2_4 (c : Dev nD) (t : Fin cfg2.N) : Vec F S400x100 .f32 := k2_pay5 (blockRows V c (blk2 t)) (x2 V t)
def gate2 (c : Dev nD) (t : Fin cfg2.N) : Vec F S400x100 .f32 := k2_pay6 (blockRows V c (blk2 t)) (x2 V t) (u2 V t) (v2 V t) (j2 V t)

/-- The sum over the points before the `n`-th. -/
def sum2 (c : Dev nD) : ℕ → Vec F S100x100 .f32
  | 0 => k2_pay1
  | n + 1 => if h : n < cfg2.N then k2_pay2 (out2_4 V c ⟨n, h⟩) (gate2 V c ⟨n, h⟩) (sum2 c n) else sum2 c n

theorem sum2_succ (c : Dev nD) (t : Fin cfg2.N) : sum2 V c (t.val + 1) = k2_pay2 (out2_4 V c t) (gate2 V c t) (sum2 V c t.val) := by
  show (if h : t.val < cfg2.N then _ else _) = _
  rw [dif_pos t.isLt]

end Values

/-! ## The two buffers from point to point -/

section Buffers

variable (c : Dev nD) (A : Buf (Elt F) (adjM.view.loc (c : Thread nD τ)))

/-- Nothing under way: every buffer free, both counters at zero, the matrix whole. -/
def idle2S : sProp 𝕄 :=
  iprop((∃ f, even2M.view.loc (c : Thread nD τ) ↦[even2M.view.set]{fullShare} f)
    ∗ (∃ f, odd2M.view.loc (c : Thread nD τ) ↦[odd2M.view.set]{fullShare} f)
    ∗ semVal ((c : Thread nD τ), SemLoc.dma cc2_scratch2.sem) 0 ∗ semVal ((c : Thread nD τ), SemLoc.dma cc2_scratch3.sem) 0
    ∗ bigSep Finset.univ (home c A))

/-- Block `b` on its way into the even buffer. -/
def toEven2 (b : Fin 25) : sProp 𝕄 :=
  iprop((∃ f, flight c cc2_scratch2.sem even2M (rows b) A f)
    ∗ (∃ f, odd2M.view.loc (c : Thread nD τ) ↦[odd2M.view.set]{fullShare} f)
    ∗ semVal ((c : Thread nD τ), SemLoc.dma cc2_scratch3.sem) 0
    ∗ bigSep (Finset.univ.erase b) (home c A))

/-- Block `b` on its way into the odd buffer. -/
def toOdd2 (b : Fin 25) : sProp 𝕄 :=
  iprop((∃ f, flight c cc2_scratch3.sem odd2M (rows b) A f)
    ∗ (∃ f, even2M.view.loc (c : Thread nD τ) ↦[even2M.view.set]{fullShare} f)
    ∗ semVal ((c : Thread nD τ), SemLoc.dma cc2_scratch2.sem) 0
    ∗ bigSep (Finset.univ.erase b) (home c A))

/-- The buffers before point `n`: that point's block is on its way, except at the two ends. -/
def state2 (n : ℕ) : sProp 𝕄 :=
  if h : 0 < n ∧ n < 25 then (if n % 2 = 0 then toEven2 c A ⟨n, h.2⟩ else toOdd2 c A ⟨n, h.2⟩) else idle2S c A

theorem state2_zero : state2 c A 0 = idle2S c A := dif_neg (by decide)
theorem state2_end : state2 c A 25 = idle2S c A := dif_neg (by decide)
theorem state2_even (n : ℕ) (h0 : 0 < n) (h : n < 25) (he : n % 2 = 0) :
    state2 c A n = toEven2 c A ⟨n, h⟩ := by unfold state2; rw [dif_pos ⟨h0, h⟩, if_pos he]
theorem state2_odd (n : ℕ) (h : n < 25) (he : n % 2 = 1) :
    state2 c A n = toOdd2 c A ⟨n, h⟩ := by unfold state2; rw [dif_pos ⟨by omega, h⟩, if_neg (by omega)]

end Buffers

/-! ## The proof data -/

variable (V : Valuation τ sig (Elt F))

/-- What lies beside the windows before point `n`. -/
def rest2 (c : Dev nD) (n : ℕ) : sProp 𝕄 :=
  iprop(state2 c (adj0 V c) n
    ∗ Pipeline.scopedRestBut (Ix := Unit) (Name := ℕ) (U := Pipeline.UD sig nD τ) (Lvl := ℕ) (Val := Elt F) spec2 c [cc2_scratch0, cc2_scratch1]
    ∗ ∃ r, prngReg c r)

def rest2S (c : Dev nD) (n : ℕ) (_ : n ≤ cfg2.N) : sProp 𝕄 := rest2 V c n

/-- The proof data over the entry contents `V`. -/
def dat2 (c : Dev nD) : Dat τ (Elt F) Unit ℕ (Pipeline.UD sig nD τ) ℕ cfg2 c where
  A w := V (Proc.devRef .tc (Pipeline.arrRef spec2 w))
  after w t := match w with
    | ⟨0, _⟩ => x2 V t
    | ⟨1, _⟩ => u2 V t
    | ⟨2, _⟩ => v2 V t
    | ⟨3, _⟩ => j2 V t
    | ⟨4, _⟩ => out2_4 V c t
    | ⟨5, _⟩ => sum2 V c (t.val + 1)
  Φ t := rest2S V c t.val (Nat.le_of_lt_succ t.isLt)
  q _ := fullShare
  owed _ := 0

theorem before2_0 (c : Dev nD) (t : Fin cfg2.N) (d) : (dat2 V c).before 0 t d = x2 V t :=
  (dat2 V c).before_in_eq_fetched 0 rfl (fun _ => rfl) (fun _ _ _ => rfl) (fun _ => rfl) t d
theorem before2_1 (c : Dev nD) (t : Fin cfg2.N) (d) : (dat2 V c).before 1 t d = u2 V t :=
  (dat2 V c).before_in_eq_fetched 1 rfl (fun _ => rfl) (fun _ _ _ => rfl) (fun _ => rfl) t d
theorem before2_2 (c : Dev nD) (t : Fin cfg2.N) (d) : (dat2 V c).before 2 t d = v2 V t :=
  (dat2 V c).before_in_eq_fetched 2 rfl (fun _ => rfl) (fun _ _ _ => rfl) (fun _ => rfl) t d
theorem before2_3 (c : Dev nD) (t : Fin cfg2.N) (d) : (dat2 V c).before 3 t d = j2 V t :=
  (dat2 V c).before_in_eq_fetched 3 rfl (fun _ => rfl) (fun _ _ _ => rfl) (fun _ => rfl) t d

/-- After the first point the sum's buffer holds what the point before left. -/
theorem before2_5 (c : Dev nD) (t : Fin cfg2.N) (ht : t.val ≠ 0) (d) : (dat2 V c).before 5 t d = sum2 V c t.val := by
  have hf : (cfg2.win 5).flush ⟨t.val - 1, Nat.lt_of_le_of_lt (Nat.sub_le _ _) t.isLt⟩ = false := by
    rw [Bool.eq_false_iff, Ne, flush2_5]
    have : t.val < 25 := t.isLt
    show ¬ (t.val - 1) % 25 = 24
    omega
  rw [(dat2 V c).before_out_kept 5 rfl t ht hf live2_5 (fun _ _ => rfl) d]
  show sum2 V c (t.val - 1 + 1) = _
  rw [Nat.sub_add_cancel (Nat.pos_of_ne_zero ht)]

/-- The defining row of the pipeline's body at point `t`. -/
theorem defs_row2 (t : Fin cfg2.N) : defs₀ (F := F) .tc cfg2.body (cfg2.bodyArgs t (cfg2.slots t)) = bodyAt2 t := by
  unfold defs₀; rw [Defs.onTc_tc]

theorem rest2_castSucc (c : Dev nD) (t : Fin cfg2.N) : (dat2 V c).Φ t.castSucc = rest2 V c t.val := by
  dsimp only [dat2]; exact Pipeline.Dat.Φ_castSucc (rest2S V c) t
theorem rest2_succ (c : Dev nD) (t : Fin cfg2.N) : (dat2 V c).Φ t.succ = rest2 V c (t.val + 1) := by
  dsimp only [dat2]; rfl

/-- Any record of waits is within the bound, which is all. -/
theorem owes2_any (c : Dev nD) (t : Fin (cfg2.N + 1)) (W : Waits sig Unit) :
    owes (c : Thread nD τ) 0 W ⊢ ((dat2 V c).owesAt () t : sProp 𝕄) := by
  iintro H
  iexists W; isplitr; · ipureintro; exact fun _ _ => Or.inl trivial
  iexact H

section Points

variable (c : Dev nD) (t : Fin cfg2.N)
  (a2 : Memref sig .tc .vmem S10000x100 .f32) (h2 : a2.IsWhole) (a3 : Memref sig .tc .vmem S100x100 .f32) (h3 : a3.IsWhole)
  (a4 : Memref sig .tc .vmem S100x100 .f32) (h4 : a4.IsWhole) (a5 : Memref sig .tc .vmem S400x1 .f32) (h5 : a5.IsWhole)
  (a6 : Memref sig .tc .vmem S400x100 .f32) (h6 : a6.IsWhole) (a7 : Memref sig .tc .vmem S100x100 .f32) (h7 : a7.IsWhole)

/-- What a point leaves: the inputs as they were, the two results, and the next point's state. -/
abbrev after2 : sProp 𝕄 :=
  iprop(owns (c : Thread nD τ) a2 fullShare (x2 V t)
    ∗ owns (c : Thread nD τ) a3 fullShare (u2 V t)
    ∗ owns (c : Thread nD τ) a4 fullShare (v2 V t)
    ∗ owns (c : Thread nD τ) a5 fullShare (j2 V t)
    ∗ owns (c : Thread nD τ) a6 fullShare (out2_4 V c t)
    ∗ owns (c : Thread nD τ) a7 fullShare (sum2 V c (t.val + 1))
    ∗ state2 c (adj0 V c) (t.val + 1)
    ∗ (∃ W', owes (c : Thread nD τ) 0 W'))

/-- The body at point `t`, given what lies in the sum's buffer. -/
abbrev Does2 (s : sProp 𝕄) : Prop := ∀ (W : Waits sig Unit) (K : PUnit → sProp 𝕄),
  iprop(owns (c : Thread nD τ) a2 fullShare (x2 V t)
    ∗ owns (c : Thread nD τ) a3 fullShare (u2 V t)
    ∗ owns (c : Thread nD τ) a4 fullShare (v2 V t)
    ∗ owns (c : Thread nD τ) a5 fullShare (j2 V t)
    ∗ (∃ d, owns (c : Thread nD τ) a6 fullShare d)
    ∗ s
    ∗ state2 c (adj0 V c) t.val
    ∗ owes (c : Thread nD τ) 0 W
    ∗ (after2 V c t a2 a3 a4 a5 a6 a7 -∗ K ⟨⟩))
  ⊢ wp frame (wpE (defs₀ (F := F)) Variants.none c none) Set.univ (pass2 (cfg2.grid.coords t) a2 h2 a3 h3 a4 h4 a5 h5 a6 h6 a7 h7) K

theorem does2_odd (ho : t.val % 2 = 1) :
    Does2 V c t a2 h2 a3 h3 a4 h4 a5 h5 a6 h6 a7 h7 (owns (c : Thread nD τ) a7 fullShare (sum2 V c t.val)) := by
  obtain ⟨c1, c2, c3, c4, c6, c7⟩ := odd2 t ho
  have hlt : t.val < 25 := t.isLt
  have hn : t.val + 1 < 25 := by omega
  intro W K
  unfold after2
  rw [state2_odd c _ t.val hlt ho, state2_even c _ (t.val + 1) (Nat.succ_pos _) hn (by omega)]
  unfold toOdd2 toEven2
  rw [home_next c _ (a := ⟨t.val, hlt⟩) (b := ⟨t.val + 1, hn⟩) (fun h => Nat.succ_ne_self t.val (Fin.ext_iff.mp h)),
    home_next c _ (a := ⟨t.val + 1, hn⟩) (b := ⟨t.val, hlt⟩) (fun h => Nat.succ_ne_self t.val (Fin.ext_iff.mp h).symm), Finset.erase_right_comm]
  iintro ⟨H2, H3, H4, H5, H6, H7, ⟨HF, He, Hc, Hn, Hh⟩, HW, Hk⟩
  iapply (run2_odd c (cfg2.grid.coords t) (adj0 V c) a2 h2 a3 h3 a4 h4 a5 h5 a6 h6 a7 h7 (x2 V t) (u2 V t) (v2 V t) (j2 V t) (sum2 V c t.val)
    (rows ⟨t.val, hlt⟩) (adj0 V c) c1 c2 c3 c4 c6 c7 W)
  isplitl [H2]; · iexact H2
  isplitl [H3]; · iexact H3
  isplitl [H4]; · iexact H4
  isplitl [H5]; · iexact H5
  isplitl [H6]; · iexact H6
  isplitl [H7]; · iexact H7
  isplitl [HF]; · iexact HF
  isplitl [He]; · iexact He
  isplitl [Hc]; · iexact Hc
  isplitl [Hn]; · rw [slice_held c (adj0 V c) ⟨t.val + 1, hn⟩ (next_odd2 t ho hn)]; iexact Hn
  isplitl [HW]; · iexact HW
  iintro ⟨H2, H3, H4, H5, H6, H7, ⟨%f, HF⟩, Ho, Hc, Hb, HW⟩
  iapply Hk
  rw [sum2_succ]
  isplitl [H2]; · iexact H2
  isplitl [H3]; · iexact H3
  isplitl [H4]; · iexact H4
  isplitl [H5]; · iexact H5
  isplitl [H6]; · iexact H6
  isplitl [H7]; · iexact H7
  isplitr [HW]
  · isplitl [HF]
    · iexists f; rw [← slice_flight c (adj0 V c) ⟨t.val + 1, hn⟩ (next_odd2 t ho hn) (k2_off1_inb _ c2) (fun _ => rfl)]; iexact HF
    isplitl [Ho]; · iexact Ho
    isplitl [Hc]; · iexact Hc
    isplitl [Hb]; · iexact Hb
    iexact Hh
  iexact HW

theorem does2_even (ho : t.val % 2 = 0) (hz : t.val ≠ 0) (hl : t.val ≠ 24) :
    Does2 V c t a2 h2 a3 h3 a4 h4 a5 h5 a6 h6 a7 h7 (owns (c : Thread nD τ) a7 fullShare (sum2 V c t.val)) := by
  obtain ⟨c1, c2, c3, c4, c5, c6⟩ := even2 t ho hz hl
  have hlt : t.val < 25 := t.isLt
  have hn : t.val + 1 < 25 := by omega
  intro W K
  unfold after2
  rw [state2_even c _ t.val (Nat.pos_of_ne_zero hz) hlt ho, state2_odd c _ (t.val + 1) hn (by omega)]
  unfold toOdd2 toEven2
  rw [home_next c _ (a := ⟨t.val, hlt⟩) (b := ⟨t.val + 1, hn⟩) (fun h => Nat.succ_ne_self t.val (Fin.ext_iff.mp h)),
    home_next c _ (a := ⟨t.val + 1, hn⟩) (b := ⟨t.val, hlt⟩) (fun h => Nat.succ_ne_self t.val (Fin.ext_iff.mp h).symm), Finset.erase_right_comm]
  iintro ⟨H2, H3, H4, H5, H6, H7, ⟨HF, He, Hc, Hn, Hh⟩, HW, Hk⟩
  iapply (run2_even c (cfg2.grid.coords t) (adj0 V c) a2 h2 a3 h3 a4 h4 a5 h5 a6 h6 a7 h7 (x2 V t) (u2 V t) (v2 V t) (j2 V t) (sum2 V c t.val)
    (rows ⟨t.val, hlt⟩) (adj0 V c) c1 c2 c3 c4 c5 c6 W)
  isplitl [H2]; · iexact H2
  isplitl [H3]; · iexact H3
  isplitl [H4]; · iexact H4
  isplitl [H5]; · iexact H5
  isplitl [H6]; · iexact H6
  isplitl [H7]; · iexact H7
  isplitl [HF]; · iexact HF
  isplitl [He]; · iexact He
  isplitl [Hc]; · iexact Hc
  isplitl [Hn]; · rw [slice_held c (adj0 V c) ⟨t.val + 1, hn⟩ (next_even2 t ho hn)]; iexact Hn
  isplitl [HW]; · iexact HW
  iintro ⟨H2, H3, H4, H5, H6, H7, ⟨%f, HF⟩, Ho, Hc, Hb, HW⟩
  iapply Hk
  rw [sum2_succ]
  isplitl [H2]; · iexact H2
  isplitl [H3]; · iexact H3
  isplitl [H4]; · iexact H4
  isplitl [H5]; · iexact H5
  isplitl [H6]; · iexact H6
  isplitl [H7]; · iexact H7
  isplitr [HW]
  · isplitl [HF]
    · iexists f; rw [← slice_flight c (adj0 V c) ⟨t.val + 1, hn⟩ (next_even2 t ho hn) (k2_off2_inb _ c3) (fun _ => rfl)]; iexact HF
    isplitl [Ho]; · iexact Ho
    isplitl [Hc]; · iexact Hc
    isplitl [Hb]; · iexact Hb
    iexact Hh
  iexact HW

theorem does2_last (hl : t.val = 24) :
    Does2 V c t a2 h2 a3 h3 a4 h4 a5 h5 a6 h6 a7 h7 (owns (c : Thread nD τ) a7 fullShare (sum2 V c t.val)) := by
  obtain ⟨c1, c2, c3, c4, c5, c6⟩ := last2 t hl
  have hlt : t.val < 25 := t.isLt
  intro W K
  unfold after2
  rw [state2_even c _ t.val (by omega) hlt (by omega), show state2 c (adj0 V c) (t.val + 1) = idle2S c (adj0 V c) by rw [hl]; exact state2_end c _]
  unfold toEven2 idle2S
  rw [home_out c _ ⟨t.val, hlt⟩]
  iintro ⟨H2, H3, H4, H5, H6, H7, ⟨HF, Ho, Hc4, Hh⟩, HW, Hk⟩
  iapply (run2_last c (cfg2.grid.coords t) a2 h2 a3 h3 a4 h4 a5 h5 a6 h6 a7 h7 (x2 V t) (u2 V t) (v2 V t) (j2 V t) (sum2 V c t.val)
    (rows ⟨t.val, hlt⟩) (adj0 V c) c1 c2 c3 c4 c5 c6 W)
  isplitl [H2]; · iexact H2
  isplitl [H3]; · iexact H3
  isplitl [H4]; · iexact H4
  isplitl [H5]; · iexact H5
  isplitl [H6]; · iexact H6
  isplitl [H7]; · iexact H7
  isplitl [HF]; · iexact HF
  isplitl [HW]; · iexact HW
  iintro ⟨H2, H3, H4, H5, H6, H7, He, Hc3, Hb, HW⟩
  iapply Hk
  rw [sum2_succ]
  isplitl [H2]; · iexact H2
  isplitl [H3]; · iexact H3
  isplitl [H4]; · iexact H4
  isplitl [H5]; · iexact H5
  isplitl [H6]; · iexact H6
  isplitl [H7]; · iexact H7
  isplitr [HW]
  · isplitl [He]; · iexact He
    isplitl [Ho]; · iexact Ho
    isplitl [Hc3]; · iexact Hc3
    isplitl [Hc4]; · iexact Hc4
    isplitl [Hb]; · iexact Hb
    iexact Hh
  iexact HW

theorem does2_first (hz : t.val = 0) :
    Does2 V c t a2 h2 a3 h3 a4 h4 a5 h5 a6 h6 a7 h7 (iprop(∃ d, owns (c : Thread nD τ) a7 fullShare d)) := by
  obtain rfl : t = pt2 := Fin.ext hz
  obtain ⟨c1, c2, c3, c4, c5, c6⟩ := first2 pt2 rfl
  intro W K
  unfold after2
  rw [show state2 c (adj0 V c) (pt2 : Fin cfg2.N).val = idle2S c (adj0 V c) from state2_zero c _,
    show state2 c (adj0 V c) ((pt2 : Fin cfg2.N).val + 1) = toOdd2 c (adj0 V c) 1 from state2_odd c _ 1 (by decide) rfl]
  unfold toOdd2 idle2S
  rw [home_out c _ 0, home_next c _ (a := 0) (b := 1) (by decide), home_next c _ (a := 1) (b := 0) (by decide), Finset.erase_right_comm]
  iintro ⟨H2, H3, H4, H5, H6, H7, ⟨He, Ho, Hc3, Hc4, Hb, Hn, Hh⟩, HW, Hk⟩
  iapply (run2_first c (cfg2.grid.coords pt2) (adj0 V c) a2 h2 a3 h3 a4 h4 a5 h5 a6 h6 a7 h7 (x2 V pt2) (u2 V pt2) (v2 V pt2) (j2 V pt2) c1 c2 c3 c4 c5 c6 W)
  isplitl [H2]; · iexact H2
  isplitl [H3]; · iexact H3
  isplitl [H4]; · iexact H4
  isplitl [H5]; · iexact H5
  isplitl [H6]; · iexact H6
  isplitl [H7]; · iexact H7
  isplitl [He]; · iexact He
  isplitl [Ho]; · iexact Ho
  isplitl [Hc3]; · iexact Hc3
  isplitl [Hc4]; · iexact Hc4
  isplitl [Hb]; · rw [slice_held c (adj0 V c) 0 (by decide)]; iexact Hb
  isplitl [Hn]; · rw [slice_held c (adj0 V c) 1 (next_even2 pt2 rfl (by decide))]; iexact Hn
  isplitl [HW]; · iexact HW
  iintro ⟨H2, H3, H4, H5, H6, H7, ⟨%f, HF⟩, He, Hc3, Hb, HW⟩
  iapply Hk
  rw [sum2_succ]
  isplitl [H2]; · iexact H2
  isplitl [H3]; · iexact H3
  isplitl [H4]; · iexact H4
  isplitl [H5]; · iexact H5
  isplitl [H6]; · iexact H6
  isplitl [H7]; · iexact H7
  isplitr [HW]
  · isplitl [HF]
    · iexists f; rw [← slice_flight c (adj0 V c) 1 (next_even2 pt2 rfl (by decide)) (k2_off2_inb _ c3) (fun _ => rfl)]; iexact HF
    isplitl [He]; · iexact He
    isplitl [Hc3]; · iexact Hc3
    isplitl [Hb]; · rw [← slice_held c (adj0 V c) 0 (show ![0, 0] = rowOff 0 by decide) inb_S10000x10000_S400x10000_0_0 (fun _ => rfl)]; iexact Hb
    iexact Hh
  iexact HW

theorem does2_mono {s s' : sProp 𝕄} (hs : s ⊢ s') (h : Does2 V c t a2 h2 a3 h3 a4 h4 a5 h5 a6 h6 a7 h7 s') :
    Does2 V c t a2 h2 a3 h3 a4 h4 a5 h5 a6 h6 a7 h7 s :=
  by
    intro W K
    refine BI.BIBase.Entails.trans ?_ (h W K)
    iintro ⟨H2, H3, H4, H5, H6, H7, Hs, HW, Hk⟩
    isplitl [H2]; · iexact H2
    isplitl [H3]; · iexact H3
    isplitl [H4]; · iexact H4
    isplitl [H5]; · iexact H5
    isplitl [H6]; · iexact H6
    isplitl [H7]; · iapply hs; iexact H7
    isplitl [Hs]; · iexact Hs
    isplitl [HW]; · iexact HW
    iexact Hk

/-- The body at any point, the sum's buffer as the pipeline hands it over. -/
theorem does2 : Does2 V c t a2 h2 a3 h3 a4 h4 a5 h5 a6 h6 a7 h7
    (iprop(∃ d, owns (c : Thread nD τ) a7 fullShare ((dat2 V c).before 5 t d))) := by
  by_cases hz : t.val = 0
  · refine does2_mono V c t a2 h2 a3 h3 a4 h4 a5 h5 a6 h6 a7 h7 ?_ (does2_first V c t a2 h2 a3 h3 a4 h4 a5 h5 a6 h6 a7 h7 hz)
    iintro ⟨%d, H⟩; iexists _; iexact H
  have hs : (iprop(∃ d, owns (c : Thread nD τ) a7 fullShare ((dat2 V c).before 5 t d)) : sProp 𝕄) ⊢ owns (c : Thread nD τ) a7 fullShare (sum2 V c t.val) := by
    iintro ⟨%d, H⟩; rw [before2_5 V c t hz]; iexact H
  by_cases ho : t.val % 2 = 1
  · exact does2_mono V c t a2 h2 a3 h3 a4 h4 a5 h5 a6 h6 a7 h7 hs (does2_odd V c t a2 h2 a3 h3 a4 h4 a5 h5 a6 h6 a7 h7 ho)
  by_cases hl : t.val = 24
  · exact does2_mono V c t a2 h2 a3 h3 a4 h4 a5 h5 a6 h6 a7 h7 hs (does2_last V c t a2 h2 a3 h3 a4 h4 a5 h5 a6 h6 a7 h7 hl)
  exact does2_mono V c t a2 h2 a3 h3 a4 h4 a5 h5 a6 h6 a7 h7 hs
    (does2_even V c t a2 h2 a3 h3 a4 h4 a5 h5 a6 h6 a7 h7 (by omega) hz hl)

end Points

theorem body2 (c : Dev nD) : BodyObligation (dat2 V c) (defs₀ (F := F)) Variants.none () Set.univ := fun t => by
  rw [bigSep_W2, bigSep_W2, defs_row2]
  dsimp only
  rw [show idle2 4 (grid2.coords t) = false from live2_4 _, show idle2 5 (grid2.coords t) = false from live2_5 _]
  dsimp only
  simp only [before2_0, before2_1, before2_2, before2_3]
  rw [rest2_castSucc, rest2_succ]
  unfold rest2
  iintro ⟨⟨Hs, Hrest, Hprng⟩, ⟨%W, %hW, HO⟩, ⟨%d0, H0⟩, ⟨%d1, H1⟩, ⟨%d2, H2⟩, ⟨%d3, H3⟩, ⟨%d4, H4⟩, H5⟩
  iapply (does2 V c t _ _ _ _ _ _ _ _ _ _ _ _ W)
  isplitl [H0]; · iexact H0
  isplitl [H1]; · iexact H1
  isplitl [H2]; · iexact H2
  isplitl [H3]; · iexact H3
  isplitl [H4]; · iexists _; iexact H4
  isplitl [H5]; · iexact H5
  isplitl [Hs]; · iexact Hs
  isplitl [HO]; · iexact HO
  iintro ⟨H0, H1, H2, H3, H4, H5, Hs, ⟨%W', HO⟩⟩
  isplitl [Hs Hrest Hprng]
  · isplitl [Hs]; · iexact Hs
    isplitl [Hrest]; · iexact Hrest
    iexact Hprng
  isplitl [HO]; · iapply (owes2_any V c t.succ W'); iexact HO
  isplitl [H0]; · iexact H0
  isplitl [H1]; · iexact H1
  isplitl [H2]; · iexact H2
  isplitl [H3]; · iexact H3
  isplitl [H4]; · iexact H4
  iexact H5

end Cert.KernelIdeal.Hand
-- ==== Proof.Ideal.Last.lean ====
/-
  The last kernel call, the second layer's closing step, five blocks of 2000 nodes: what one block's body stores
  (`last_run`), the proof data over the arrays' contents at entry (`dat3`), and the body's obligation at every point (`body3`).
-/
module

public import proofs.«01_k».proof.Proof.Ideal.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The body on whole buffers: from the block `p` of pooled rows, the two weights of the gate, the pooled matrix `hi`, and
    the blocks of the embedding and of the first layer's two results, it leaves the blocks of the two results. -/
theorem last_run (c : Dev nD) (i : grid3.Coords)
    (a1 : Memref sig .tc .vmem S2000x100 .f32) (h1 : a1.IsWhole) (a2 : Memref sig .tc .vmem S100x100 .f32) (h2 : a2.IsWhole)
    (a3 : Memref sig .tc .vmem S100x100 .f32) (h3 : a3.IsWhole) (a4 : Memref sig .tc .vmem S100x100 .f32) (h4 : a4.IsWhole)
    (a5 : Memref sig .tc .vmem S2000x100 .f32) (h5 : a5.IsWhole) (a6 : Memref sig .tc .vmem S2000x100 .f32) (h6 : a6.IsWhole)
    (a7 : Memref sig .tc .vmem S2000x100 .f32) (h7 : a7.IsWhole) (a8 : Memref sig .tc .vmem S2000x100 .f32) (h8 : a8.IsWhole)
    (a9 : Memref sig .tc .vmem S2000x100 .f32) (h9 : a9.IsWhole)
    (p : Vec F S2000x100 .f32) (w1 w2 hi : Vec F S100x100 .f32) (e n g : Vec F S2000x100 .f32) (K : PUnit → sProp 𝕄) :
    iprop(owns (c : Thread nD τ) a1 fullShare p ∗ owns (c : Thread nD τ) a2 fullShare w1 ∗ owns (c : Thread nD τ) a3 fullShare w2 ∗ owns (c : Thread nD τ) a4 fullShare hi ∗ owns (c : Thread nD τ) a5 fullShare e ∗ owns (c : Thread nD τ) a6 fullShare n ∗ owns (c : Thread nD τ) a7 fullShare g
        ∗ (∃ d, owns (c : Thread nD τ) a8 fullShare d) ∗ (∃ d, owns (c : Thread nD τ) a9 fullShare d)
        ∗ (iprop(owns (c : Thread nD τ) a1 fullShare p ∗ owns (c : Thread nD τ) a2 fullShare w1 ∗ owns (c : Thread nD τ) a3 fullShare w2 ∗ owns (c : Thread nD τ) a4 fullShare hi ∗ owns (c : Thread nD τ) a5 fullShare e ∗ owns (c : Thread nD τ) a6 fullShare n ∗ owns (c : Thread nD τ) a7 fullShare g
            ∗ owns (c : Thread nD τ) a8 fullShare (k3_pay4 p w1 w2 hi e n)
            ∗ owns (c : Thread nD τ) a9 fullShare (k3_pay1 (k3_pay3 p w1 w2 hi) g)) -∗ K ⟨⟩))
      ⊢ wp frame (wpE (defs₀ (F := F)) Variants.none c none) Set.univ
          (cc3__tail_last_body i a1 h1 a2 h2 a3 h3 a4 h4 a5 h5 a6 h6 a7 h7 a8 h8 a9 h9) K := by
  rw [cc3__tail_last_body_eq_skeleton]; unfold cc3__tail_last_body_skel
  rw [k3_part1_eq_skeleton]; unfold k3_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, Hk⟩
  sl_exec
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]; · iexists f5; isplitr; swap; (· iexact H5); ipureintro; exact e5
  isplitl [H6]; · iexists f6; isplitr; swap; (· iexact H6); ipureintro; exact e6
  isplitl [H7]; · iexists f7; isplitr; swap; (· iexact H7); ipureintro; exact e7
  isplitl [H8]
  · iexists _; isplitr; swap; (· iexact H8); ipureintro
    rw [stored_all _ at_zero, load_all _ at_zero, load_all _ at_zero, load_all _ at_zero, load_all _ at_zero, load_all _ at_zero, load_all _ at_zero, e1, e2, e3, e4, e5, e6]
  iexists _; isplitr; swap; (· iexact H9); ipureintro
  rw [stored_all _ at_zero, load_all _ at_zero, load_all _ at_zero, load_all _ at_zero, load_all _ at_zero, load_all _ at_zero, e1, e2, e3, e4, e7]

/-! ## The proof data -/

variable (V : Valuation τ sig (Elt F))

/-- Window `w`'s block at point `t`, read off the arrays' contents `V`. -/
def in3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

abbrev p3 (t : Fin cfg3.N) : Vec F S2000x100 .f32 := in3 V 0 t
abbrev u3 (t : Fin cfg3.N) : Vec F S100x100 .f32 := in3 V 1 t
abbrev v3 (t : Fin cfg3.N) : Vec F S100x100 .f32 := in3 V 2 t
abbrev hi3 (t : Fin cfg3.N) : Vec F S100x100 .f32 := in3 V 3 t
abbrev e3 (t : Fin cfg3.N) : Vec F S2000x100 .f32 := in3 V 4 t
abbrev n3 (t : Fin cfg3.N) : Vec F S2000x100 .f32 := in3 V 5 t
abbrev g3 (t : Fin cfg3.N) : Vec F S2000x100 .f32 := in3 V 6 t

/-- What the two results' blocks hold after point `t`. -/
def out3_7 (t : Fin cfg3.N) : Vec F S2000x100 .f32 := k3_pay4 (p3 V t) (u3 V t) (v3 V t) (hi3 V t) (e3 V t) (n3 V t)
def out3_8 (t : Fin cfg3.N) : Vec F S2000x100 .f32 := k3_pay1 (k3_pay3 (p3 V t) (u3 V t) (v3 V t) (hi3 V t)) (g3 V t)

/-- What lies beside the windows throughout: the buffers that no window stages, and the generator's register. -/
def rest3 (c : Dev nD) : sProp 𝕄 :=
  iprop(Pipeline.scopedRest (Ix := Unit) (Name := ℕ) (U := Pipeline.UD sig nD τ) (Lvl := ℕ) (Val := Elt F) spec3 c ∗ ∃ r, prngReg c r)

/-- The proof data over the entry contents `V`: every input window holds its block, every result what the point stored. -/
def dat3 (c : Dev nD) : Dat τ (Elt F) Unit ℕ (Pipeline.UD sig nD τ) ℕ cfg3 c where
  A w := V (Proc.devRef .tc (Pipeline.arrRef spec3 w))
  after w t := match w with
    | ⟨0, _⟩ => p3 V t
    | ⟨1, _⟩ => u3 V t
    | ⟨2, _⟩ => v3 V t
    | ⟨3, _⟩ => hi3 V t
    | ⟨4, _⟩ => e3 V t
    | ⟨5, _⟩ => n3 V t
    | ⟨6, _⟩ => g3 V t
    | ⟨7, _⟩ => out3_7 V t
    | ⟨8, _⟩ => out3_8 V t
  Φ _ := rest3 c
  q _ := fullShare
  owed _ := 0

theorem before3_0 (c : Dev nD) (t : Fin cfg3.N) (d) : (dat3 V c).before 0 t d = p3 V t :=
  (dat3 V c).before_in_eq_fetched 0 rfl (fun _ => rfl) (fun _ _ _ => rfl) (fun _ => rfl) t d
theorem before3_1 (c : Dev nD) (t : Fin cfg3.N) (d) : (dat3 V c).before 1 t d = u3 V t :=
  (dat3 V c).before_in_eq_fetched 1 rfl (fun _ => rfl) (fun _ _ _ => rfl) (fun _ => rfl) t d
theorem before3_2 (c : Dev nD) (t : Fin cfg3.N) (d) : (dat3 V c).before 2 t d = v3 V t :=
  (dat3 V c).before_in_eq_fetched 2 rfl (fun _ => rfl) (fun _ _ _ => rfl) (fun _ => rfl) t d
theorem before3_3 (c : Dev nD) (t : Fin cfg3.N) (d) : (dat3 V c).before 3 t d = hi3 V t :=
  (dat3 V c).before_in_eq_fetched 3 rfl (fun _ => rfl) (fun _ _ _ => rfl) (fun _ => rfl) t d
theorem before3_4 (c : Dev nD) (t : Fin cfg3.N) (d) : (dat3 V c).before 4 t d = e3 V t :=
  (dat3 V c).before_in_eq_fetched 4 rfl (fun _ => rfl) (fun _ _ _ => rfl) (fun _ => rfl) t d
theorem before3_5 (c : Dev nD) (t : Fin cfg3.N) (d) : (dat3 V c).before 5 t d = n3 V t :=
  (dat3 V c).before_in_eq_fetched 5 rfl (fun _ => rfl) (fun _ _ _ => rfl) (fun _ => rfl) t d
theorem before3_6 (c : Dev nD) (t : Fin cfg3.N) (d) : (dat3 V c).before 6 t d = g3 V t :=
  (dat3 V c).before_in_eq_fetched 6 rfl (fun _ => rfl) (fun _ _ _ => rfl) (fun _ => rfl) t d

/-- The defining row of the pipeline's body at point `t`. -/
theorem defs_row3 (t : Fin cfg3.N) : defs₀ (F := F) .tc cfg3.body (cfg3.bodyArgs t (cfg3.slots t)) = bodyAt3 t := by
  unfold defs₀; rw [Defs.onTc_tc]

theorem body3 (c : Dev nD) : BodyObligation (dat3 V c) (defs₀ (F := F)) Variants.none () Set.univ := fun t => by
  rw [bigSep_W3, bigSep_W3, defs_row3]
  dsimp only
  simp only [before3_0, before3_1, before3_2, before3_3, before3_4, before3_5, before3_6]
  rw [show (dat3 V c).Φ t.castSucc = rest3 c from rfl, show (dat3 V c).Φ t.succ = rest3 c from rfl,
    show (dat3 V c).owesAt () t.succ = (dat3 V c).owesAt () t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (last_run c _ _ _ _ _ _ _ _ _ _ _ _ _ _ _ _ _ _ _ (p3 V t) (u3 V t) (v3 V t) (hi3 V t) (e3 V t) (n3 V t) (g3 V t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Cert.KernelIdeal.Hand
-- ==== Proof.Ideal.Launch.lean ====
/-
  The whole run: the four kernel calls as records over the buffers between them, and what every final state holds
  (`run_main`): each buffer the program keeps, at the contents the last call leaves.
-/
module

public import proofs.«01_k».proof.Proof.Ideal.Pass1
public import proofs.«01_k».proof.Proof.Ideal.Mid
public import proofs.«01_k».proof.Proof.Ideal.Pass2
public import proofs.«01_k».proof.Proof.Ideal.Last
public import proofs.«01_k».proof.Proof.Gen.KernelIdeal.Regions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg)

variable {F : FTy → Type} [FloatOps F] [Named F]

local notation "𝕄" => MT nD τ sig Unit (Elt F) ℕ (Pipeline.UD sig nD τ) ℕ

/-! ## The buffers between the calls -/

section Contents

variable (m : (ℓ : Loc nD τ sig) → Buf (Elt F) ℓ)

/-- The buffers when the first call starts, -/
def at1 (c : Dev nD) : Valuation τ sig (Elt F) := V1 m c
/-- when the second starts, -/
def at2 (c : Dev nD) : Valuation τ sig (Elt F) := Pipeline.afterRegion (dat0 (at1 m c) c) (at1 m c)
/-- the third, -/
def at3 (c : Dev nD) : Valuation τ sig (Elt F) := Pipeline.afterRegion (dat1 (at2 m c) c) (at2 m c)
/-- the fourth, -/
def at4 (c : Dev nD) : Valuation τ sig (Elt F) := Pipeline.afterRegion (dat2 (at3 m c) c) (at3 m c)
/-- and at the end. -/
def at5 (c : Dev nD) : Valuation τ sig (Elt F) := Pipeline.afterRegion (dat3 (at4 m c) c) (at4 m c)

/-- The four calls' proof data, each over the contents it starts from. -/
def pdats (p : Fin 4) (c : Dev nD) : Dat τ (Elt F) Unit ℕ (Pipeline.UD sig nD τ) ℕ (cfgs p) c :=
  match p with
  | ⟨0, _⟩ => dat0 (at1 m c) c
  | ⟨1, _⟩ => dat1 (at2 m c) c
  | ⟨2, _⟩ => dat2 (at3 m c) c
  | ⟨3, _⟩ => dat3 (at4 m c) c

end Contents

/-! ## Levels and thread state -/

/-- Every counter of the core's own thread waits at the one index, -/
def idx (g : GSem nD τ sig) : Finset Unit := if g.1.2 = .tc then {()} else ∅
/-- at level zero. -/
def lev (_ : GSem nD τ sig) (_ : Unit) : ℕ := 0

/-- What rides beside the buffers: nothing owed, and the generator's register. -/
def ride (c : Dev nD) : sProp 𝕄 :=
  iprop((∃ Wd, owes (c : Thread nD τ) (0 : CellTallies nD τ sig Unit) Wd) ∗ (∃ r, prngReg c r) ∗ emp)

/-! ## The counters and the matrix of the two passes -/

def cells0 : Fin 2 → SemLoc sig := ![SemLoc.dma cc0_scratch3.sem, SemLoc.dma cc0_scratch4.sem]
def cells2 : Fin 2 → SemLoc sig := ![SemLoc.dma cc2_scratch2.sem, SemLoc.dma cc2_scratch3.sem]

theorem cells0_own : Pipeline.OwnSemFacts spec0 cells0 := by decide
theorem cells2_own : Pipeline.OwnSemFacts spec2 cells2 := by decide

theorem cells0_eq (c : Dev nD) : (Pipeline.ownSems0 (Ix := Unit) (Name := ℕ) (U := Pipeline.UD sig nD τ) (Lvl := ℕ) (Val := Elt F) (τ := τ) cells0 c : sProp 𝕄)
    = iprop(semVal ((c : Thread nD τ), SemLoc.dma cc0_scratch3.sem) 0 ∗ semVal ((c : Thread nD τ), SemLoc.dma cc0_scratch4.sem) 0) := by
  rw [Pipeline.ownSems0_eq_of_list c cells0 [0, 1] (by decide) (by decide)]; rfl
theorem cells2_eq (c : Dev nD) : (Pipeline.ownSems0 (Ix := Unit) (Name := ℕ) (U := Pipeline.UD sig nD τ) (Lvl := ℕ) (Val := Elt F) (τ := τ) cells2 c : sProp 𝕄)
    = iprop(semVal ((c : Thread nD τ), SemLoc.dma cc2_scratch2.sem) 0 ∗ semVal ((c : Thread nD τ), SemLoc.dma cc2_scratch3.sem) 0) := by
  rw [Pipeline.ownSems0_eq_of_list c cells2 [0, 1] (by decide) (by decide)]; rfl

/-- The one operand the passes read where it lies. -/
def far : Finset (Ref sig .tc) := {main_arg1}

theorem far_eq (c : Dev nD) (W : Valuation τ sig (Elt F)) :
    (bigSep far fun b => ((c.tc : Thread nD τ).loc b) ↦{fullShare} W (Proc.devRef .tc b) : sProp 𝕄)
      = bigSep Finset.univ (home c (adj0 W c)) := by
  rw [← adj_blocks]
  unfold far
  rw [BI.bigSep_singleton]

/-- A whole buffer at some contents, as the body names it. -/
theorem some_whole (c : Dev nD) (b : Ref sig .tc) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [Memref.view_whole, View.set_whole]

theorem some_owns (c : Dev nD) (b : Ref sig .tc) :
    (iprop(∃ f : Buf (Elt F) ((c : Thread nD τ).loc b), ((c : Thread nD τ).loc b) ↦{fullShare} f) : sProp 𝕄)
      = iprop(∃ d, owns (c : Thread nD τ) (Memref.whole b) fullShare d) := by
  simp only [owns_whole]

theorem rest0_open (W : Valuation τ sig (Elt F)) (c : Dev nD) (n : ℕ) (h : state0 c (adj0 W c) (x0 W) n = idle0S c (adj0 W c)) :
    (iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) cells0 c
      ∗ bigSep far fun b => ((c.tc : Thread nD τ).loc b) ↦{fullShare} W (Proc.devRef .tc b)) : sProp 𝕄) ⊢ rest0 W c n := by
  unfold rest0
  rw [h, scopedRest0_split, cells0_eq, far_eq, some_owns c cc0_scratch0, some_whole c cc0_scratch1, some_whole c cc0_scratch2]
  unfold idle0S
  iintro ⟨⟨⟨Hx, He, Ho⟩, Hr⟩, Hp, ⟨Hc3, Hc4⟩, Hh⟩
  isplitl [Hx He Ho Hc3 Hc4 Hh]
  · isplitl [Hx]; · iexact Hx
    isplitl [He]; · iexact He
    isplitl [Ho]; · iexact Ho
    isplitl [Hc3]; · iexact Hc3
    isplitl [Hc4]; · iexact Hc4
    iexact Hh
  isplitl [Hr]; · iexact Hr
  iexact Hp

theorem rest0_close (W : Valuation τ sig (Elt F)) (c : Dev nD) (n : ℕ) (h : state0 c (adj0 W c) (x0 W) n = idle0S c (adj0 W c)) :
    rest0 W c n ⊢ (iprop(Pipeline.scopedRest (Ix := Unit) (Name := ℕ) (U := Pipeline.UD sig nD τ) (Lvl := ℕ) (Val := Elt F) spec0 c ∗ (∃ r, prngReg c r)
      ∗ Pipeline.ownSems0 (Ix := Unit) (Name := ℕ) (U := Pipeline.UD sig nD τ) (Lvl := ℕ) (Val := Elt F) (τ := τ) cells0 c
      ∗ bigSep far fun b => ((c.tc : Thread nD τ).loc b) ↦{fullShare} W (Proc.devRef .tc b)) : sProp 𝕄) := by
  unfold rest0
  rw [h, scopedRest0_split, cells0_eq, far_eq, some_owns c cc0_scratch0, some_whole c cc0_scratch1, some_whole c cc0_scratch2]
  unfold idle0S
  iintro ⟨⟨Hx, He, Ho, Hc3, Hc4, Hh⟩, Hr, Hp⟩
  isplitl [Hx He Ho Hr]
  · isplitl [Hx He Ho]
    · isplitl [Hx]; · iexact Hx
      isplitl [He]; · iexact He
      iexact Ho
    iexact Hr
  isplitl [Hp]; · iexact Hp
  isplitl [Hc3 Hc4]
  · isplitl [Hc3]; · iexact Hc3
    iexact Hc4
  iexact Hh

theorem rest2_open (W : Valuation τ sig (Elt F)) (c : Dev nD) (n : ℕ) (h : state2 c (adj0 W c) n = idle2S c (adj0 W c)) :
    (iprop(Pipeline.scopedRest (Ix := Unit) (Name := ℕ) (U := Pipeline.UD sig nD τ) (Lvl := ℕ) (Val := Elt F) spec2 c ∗ (∃ r, prngReg c r)
      ∗ Pipeline.ownSems0 (Ix := Unit) (Name := ℕ) (U := Pipeline.UD sig nD τ) (Lvl := ℕ) (Val := Elt F) (τ := τ) cells2 c
      ∗ bigSep far fun b => ((c.tc : Thread nD τ).loc b) ↦{fullShare} W (Proc.devRef .tc b)) : sProp 𝕄) ⊢ rest2 W c n := by
  unfold rest2
  rw [h, scopedRest2_split, cells2_eq, far_eq, some_whole c cc2_scratch0, some_whole c cc2_scratch1]
  unfold idle2S
  iintro ⟨⟨⟨He, Ho⟩, Hr⟩, Hp, ⟨Hc3, Hc4⟩, Hh⟩
  isplitl [He Ho Hc3 Hc4 Hh]
  · isplitl [He]; · iexact He
    isplitl [Ho]; · iexact Ho
    isplitl [Hc3]; · iexact Hc3
    isplitl [Hc4]; · iexact Hc4
    iexact Hh
  isplitl [Hr]; · iexact Hr
  iexact Hp

theorem rest2_close (W : Valuation τ sig (Elt F)) (c : Dev nD) (n : ℕ) (h : state2 c (adj0 W c) n = idle2S c (adj0 W c)) :
    rest2 W c n ⊢ (iprop(Pipeline.scopedRest (Ix := Unit) (Name := ℕ) (U := Pipeline.UD sig nD τ) (Lvl := ℕ) (Val := Elt F) spec2 c ∗ (∃ r, prngReg c r)
      ∗ Pipeline.ownSems0 (Ix := Unit) (Name := ℕ) (U := Pipeline.UD sig nD τ) (Lvl := ℕ) (Val := Elt F) (τ := τ) cells2 c
      ∗ bigSep far fun b => ((c.tc : Thread nD τ).loc b) ↦{fullShare} W (Proc.devRef .tc b)) : sProp 𝕄) := by
  unfold rest2
  rw [h, scopedRest2_split, cells2_eq, far_eq, some_whole c cc2_scratch0, some_whole c cc2_scratch1]
  unfold idle2S
  iintro ⟨⟨He, Ho, Hc3, Hc4, Hh⟩, Hr, Hp⟩
  isplitl [He Ho Hr]
  · isplitl [He Ho]
    · isplitl [He]; · iexact He
      iexact Ho
    iexact Hr
  isplitl [Hp]; · iexact Hp
  isplitl [Hc3 Hc4]
  · isplitl [Hc3]; · iexact Hc3
    iexact Hc4
  iexact Hh

/-! ## The calls' records -/

section Records

variable (m : (ℓ : Loc nD τ sig) → Buf (Elt F) ℓ)

abbrev Rec (p : Fin 4) : Type 1 := RegionSeg (pcfgs (F := F)) adm (pdats m) () defs₀ Variants.none idx lev p

theorem cut (p : Fin 4) : Pipeline.LevelCut (pcfgs (F := F)) adm () idx lev p (fun _ => (0 : CellTallies nD τ sig Unit)) (fun _ => 0) where
  hι c w s := by unfold idx; rw [if_pos rfl]; exact Finset.mem_singleton_self ()
  hιb c w s := le_refl _
  hD c g i h := absurd h (lt_irrefl _)

theorem waits (c : Dev nD) : (levAts idx lev : sProp 𝕄) ⊢ Transfers.MayWaits (c : Thread nD τ) () (0 : CellTallies nD τ sig Unit) := by
  iintro -
  iapply (Transfers.MayWaits.zero (c : Thread nD τ) ())
  iempintro

/-- The buffers no window of the pass stages. -/
def others0 : Finset (DevRef τ sig) := Pipeline.ucRefs τ sig \ Pipeline.arrRefs spec0
def others2 : Finset (DevRef τ sig) := Pipeline.ucRefs τ sig \ Pipeline.arrRefs spec2
theorem far_others0 : Pipeline.hbmRefs (τ := τ) far ⊆ others0 := by decide
theorem far_others2 : Pipeline.hbmRefs (τ := τ) far ⊆ others2 := by decide
theorem arr_sub0 : Pipeline.arrRefs (τ := τ) spec0 ⊆ Pipeline.ucRefs τ sig := by decide
theorem arr_sub1 : Pipeline.arrRefs (τ := τ) spec1 ⊆ Pipeline.ucRefs τ sig := by decide
theorem arr_sub2 : Pipeline.arrRefs (τ := τ) spec2 ⊆ Pipeline.ucRefs τ sig := by decide
theorem arr_sub3 : Pipeline.arrRefs (τ := τ) spec3 ⊆ Pipeline.ucRefs τ sig := by decide

def rec0 : Rec m 0 :=
  RegionSeg.ofHeldDH (pcfgs (F := F)) adm (pdats m) () defs₀ Variants.none idx lev 0 (fun _ => 0) () cells0 cells0_own far others0 far_others0
    launch0.toP rfl (fun c => (body0 (at1 m c) c).loose) (fun _ _ => rfl) (fun _ => rfl) (fun c => (dat0 (at1 m c) c).share_full fun _ => rfl)
    (fun c => waits c) (at1 m) (at2 m)
    (fun c => BI.BIBase.Entails.trans (by
      iintro ⟨Hr, Hp, Hs, Hh, -⟩
      isplitl [Hr]; · iexact Hr
      isplitl [Hp]; · iexact Hp
      isplitl [Hs]; · iexact Hs
      iexact Hh) (rest0_open (at1 m c) c 0 (state0_zero c _ _)))
    (fun c => rest0_close (at1 m c) c 25 (state0_end c _ _))
    (fun _ => 0) (cut 0) (fun _ => iprop(emp))
    (fun c w => rfl)
    (fun c w => (Pipeline.afterRegion_arr (dat0 (at1 m c) c) (at1 m c) winFacts0.arr_inj w).symm)

def rec1 : Rec m 1 :=
  RegionSeg.ofHeldIn (pcfgs (F := F)) adm (pdats m) () defs₀ Variants.none idx lev 1 (fun _ => 0) (Pipeline.ucRefs τ sig)
    (fun c => iprop(∃ r, prngReg c r)) (fun c => iprop(∃ r, prngReg c r))
    launch1.toP rfl (fun c => (body1 (at2 m c) c).loose) (fun _ _ => rfl) (fun _ => rfl) (fun c => (dat1 (at2 m c) c).share_full fun _ => rfl)
    (fun c => .rfl) (fun c => .rfl) (fun _ => 0) (cut 1) (fun _ => iprop(emp)) (at2 m) (fun c w => rfl)

def rec2 : Rec m 2 :=
  RegionSeg.ofHeldDH (pcfgs (F := F)) adm (pdats m) () defs₀ Variants.none idx lev 2 (fun _ => 0) () cells2 cells2_own far others2 far_others2
    launch2.toP rfl (fun c => (body2 (at3 m c) c).loose) (fun _ _ => rfl) (fun _ => rfl) (fun c => (dat2 (at3 m c) c).share_full fun _ => rfl)
    (fun c => waits c) (at3 m) (at4 m)
    (fun c => BI.BIBase.Entails.trans (by
      iintro ⟨Hr, Hp, Hs, Hh, -⟩
      isplitl [Hr]; · iexact Hr
      isplitl [Hp]; · iexact Hp
      isplitl [Hs]; · iexact Hs
      iexact Hh) (rest2_open (at3 m c) c 0 (state2_zero c _)))
    (fun c => rest2_close (at3 m c) c 25 (state2_end c _))
    (fun _ => 0) (cut 2) (fun _ => iprop(emp))
    (fun c w => rfl)
    (fun c w => (Pipeline.afterRegion_arr (dat2 (at3 m c) c) (at3 m c) winFacts2.arr_inj w).symm)

def rec3 : Rec m 3 :=
  RegionSeg.ofHeldIn (pcfgs (F := F)) adm (pdats m) () defs₀ Variants.none idx lev 3 (fun _ => 0) (Pipeline.ucRefs τ sig)
    (fun c => iprop(∃ r, prngReg c r)) (fun c => iprop(∃ r, prngReg c r))
    launch3.toP rfl (fun c => (body3 (at4 m c) c).loose) (fun _ _ => rfl) (fun _ => rfl) (fun c => (dat3 (at4 m c) c).share_full fun _ => rfl)
    (fun c => .rfl) (fun c => .rfl) (fun _ => 0) (cut 3) (fun _ => iprop(emp)) (at4 m) (fun c w => rfl)

/-! ### Into and out of each record, with every kept buffer held -/

theorem gather (c : Dev nD) {A : Finset (DevRef τ sig)} (hA : A ⊆ Pipeline.ucRefs τ sig) (W : Valuation τ sig (Elt F)) :
    iprop(StableHlo.held (c : Thread nD τ) (Pipeline.ucRefs τ sig) W ∗ ride c)
      ⊢ (iprop(StableHlo.held (c.tc : Thread nD τ) A W ∗ (∃ r, prngReg c r)
          ∗ (StableHlo.held (c.tc : Thread nD τ) (Pipeline.ucRefs τ sig \ A) W ∗ emp) ∗ ∃ Wd, owes (c : Thread nD τ) (0 : CellTallies nD τ sig Unit) Wd) : sProp 𝕄) := by
  rw [StableHlo.held_sub_split (c.tc : Thread nD τ) hA W]
  unfold ride
  iintro ⟨⟨Ha, Hu⟩, HO, Hp, He⟩
  isplitl [Ha]; · iexact Ha
  isplitl [Hp]; · iexact Hp
  isplitl [Hu He]
  · isplitl [Hu]; · iexact Hu
    iexact He
  iexact HO

theorem spread (c : Dev nD) {A : Finset (DevRef τ sig)} (hA : A ⊆ Pipeline.ucRefs τ sig) (W W' : Valuation τ sig (Elt F))
    (hoff : ∀ b ∈ Pipeline.ucRefs τ sig \ A, W' b = W b) :
    (iprop(StableHlo.held (c.tc : Thread nD τ) A W' ∗ (∃ r, prngReg c r)
        ∗ (StableHlo.held (c.tc : Thread nD τ) (Pipeline.ucRefs τ sig \ A) W ∗ emp) ∗ ∃ Wd, owes (c : Thread nD τ) (0 : CellTallies nD τ sig Unit) Wd) : sProp 𝕄)
      ⊢ iprop(StableHlo.held (c : Thread nD τ) (Pipeline.ucRefs τ sig) W' ∗ ride c) := by
  rw [StableHlo.held_sub_split (c.tc : Thread nD τ) hA W',
    StableHlo.held_congr (c.tc : Thread nD τ) (S := Pipeline.ucRefs τ sig \ A) (V := W') (V' := W) hoff]
  unfold ride
  iintro ⟨Ha, Hp, ⟨Hu, He⟩, HO⟩
  isplitl [Ha Hu]
  · isplitl [Ha]; · iexact Ha
    iexact Hu
  isplitl [HO]; · iexact HO
  isplitl [Hp]; · iexact Hp
  iexact He

theorem into0 (c : Dev nD) : iprop(StableHlo.held (c : Thread nD τ) (Pipeline.ucRefs τ sig) (at1 m c) ∗ ride c) ⊢ (rec0 m).pre c := by
  show _ ⊢ iprop(StableHlo.held (c.tc : Thread nD τ) (Pipeline.arrRefs spec0) (at1 m c) ∗ (∃ r, prngReg c r)
    ∗ (StableHlo.held (c.tc : Thread nD τ) others0 (at1 m c) ∗ emp) ∗ ∃ Wd, owes (c : Thread nD τ) (0 : CellTallies nD τ sig Unit) Wd)
  exact gather c arr_sub0 (at1 m c)
theorem outof0 (c : Dev nD) : (rec0 m).post c ⊢ iprop(StableHlo.held (c : Thread nD τ) (Pipeline.ucRefs τ sig) (at2 m c) ∗ ride c) := by
  show iprop(StableHlo.held (c.tc : Thread nD τ) (Pipeline.arrRefs spec0) (at2 m c) ∗ (∃ r, prngReg c r)
    ∗ (StableHlo.held (c.tc : Thread nD τ) others0 (at1 m c) ∗ emp) ∗ ∃ Wd, owes (c : Thread nD τ) (0 : CellTallies nD τ sig Unit) Wd) ⊢ _
  exact spread c arr_sub0 (at1 m c) (at2 m c) (Pipeline.afterRegion_off (dat0 (at1 m c) c) (at1 m c) (Pipeline.ucRefs τ sig))

theorem into1 (c : Dev nD) : iprop(StableHlo.held (c : Thread nD τ) (Pipeline.ucRefs τ sig) (at2 m c) ∗ ride c) ⊢ (rec1 m).pre c := by
  show _ ⊢ iprop(StableHlo.held (c.tc : Thread nD τ) (Pipeline.arrRefs spec1) (at2 m c) ∗ (∃ r, prngReg c r)
    ∗ (StableHlo.held (c.tc : Thread nD τ) (Pipeline.ucRefs τ sig \ Pipeline.arrRefs spec1) (at2 m c) ∗ emp) ∗ ∃ Wd, owes (c : Thread nD τ) (0 : CellTallies nD τ sig Unit) Wd)
  exact gather c arr_sub1 (at2 m c)
theorem outof1 (c : Dev nD) : (rec1 m).post c ⊢ iprop(StableHlo.held (c : Thread nD τ) (Pipeline.ucRefs τ sig) (at3 m c) ∗ ride c) := by
  show iprop(StableHlo.held (c.tc : Thread nD τ) (Pipeline.arrRefs spec1) (at3 m c) ∗ (∃ r, prngReg c r)
    ∗ (StableHlo.held (c.tc : Thread nD τ) (Pipeline.ucRefs τ sig \ Pipeline.arrRefs spec1) (at2 m c) ∗ emp) ∗ ∃ Wd, owes (c : Thread nD τ) (0 : CellTallies nD τ sig Unit) Wd) ⊢ _
  exact spread c arr_sub1 (at2 m c) (at3 m c) (Pipeline.afterRegion_off (dat1 (at2 m c) c) (at2 m c) (Pipeline.ucRefs τ sig))

theorem into2 (c : Dev nD) : iprop(StableHlo.held (c : Thread nD τ) (Pipeline.ucRefs τ sig) (at3 m c) ∗ ride c) ⊢ (rec2 m).pre c := by
  show _ ⊢ iprop(StableHlo.held (c.tc : Thread nD τ) (Pipeline.arrRefs spec2) (at3 m c) ∗ (∃ r, prngReg c r)
    ∗ (StableHlo.held (c.tc : Thread nD τ) others2 (at3 m c) ∗ emp) ∗ ∃ Wd, owes (c : Thread nD τ) (0 : CellTallies nD τ sig Unit) Wd)
  exact gather c arr_sub2 (at3 m c)
theorem outof2 (c : Dev nD) : (rec2 m).post c ⊢ iprop(StableHlo.held (c : Thread nD τ) (Pipeline.ucRefs τ sig) (at4 m c) ∗ ride c) := by
  show iprop(StableHlo.held (c.tc : Thread nD τ) (Pipeline.arrRefs spec2) (at4 m c) ∗ (∃ r, prngReg c r)
    ∗ (StableHlo.held (c.tc : Thread nD τ) others2 (at3 m c) ∗ emp) ∗ ∃ Wd, owes (c : Thread nD τ) (0 : CellTallies nD τ sig Unit) Wd) ⊢ _
  exact spread c arr_sub2 (at3 m c) (at4 m c) (Pipeline.afterRegion_off (dat2 (at3 m c) c) (at3 m c) (Pipeline.ucRefs τ sig))

theorem into3 (c : Dev nD) : iprop(StableHlo.held (c : Thread nD τ) (Pipeline.ucRefs τ sig) (at4 m c) ∗ ride c) ⊢ (rec3 m).pre c := by
  show _ ⊢ iprop(StableHlo.held (c.tc : Thread nD τ) (Pipeline.arrRefs spec3) (at4 m c) ∗ (∃ r, prngReg c r)
    ∗ (StableHlo.held (c.tc : Thread nD τ) (Pipeline.ucRefs τ sig \ Pipeline.arrRefs spec3) (at4 m c) ∗ emp) ∗ ∃ Wd, owes (c : Thread nD τ) (0 : CellTallies nD τ sig Unit) Wd)
  exact gather c arr_sub3 (at4 m c)
theorem outof3 (c : Dev nD) : (rec3 m).post c ⊢ iprop(StableHlo.held (c : Thread nD τ) (Pipeline.ucRefs τ sig) (at5 m c) ∗ ride c) := by
  show iprop(StableHlo.held (c.tc : Thread nD τ) (Pipeline.arrRefs spec3) (at5 m c) ∗ (∃ r, prngReg c r)
    ∗ (StableHlo.held (c.tc : Thread nD τ) (Pipeline.ucRefs τ sig \ Pipeline.arrRefs spec3) (at4 m c) ∗ emp) ∗ ∃ Wd, owes (c : Thread nD τ) (0 : CellTallies nD τ sig Unit) Wd) ⊢ _
  exact spread c arr_sub3 (at4 m c) (at5 m c) (Pipeline.afterRegion_off (dat3 (at4 m c) c) (at4 m c) (Pipeline.ucRefs τ sig))

end Records

/-! ## The run -/

variable (m : (ℓ : Loc nD τ sig) → Buf (Elt F) ℓ) (ρ : Dev nD → PrngReg)

/-- What every final state shows: each kept buffer at its last contents, each counter at zero. -/
def Final (s : MemSt nD τ sig (Elt F)) : Prop :=
  (∀ (c : Dev nD) (r : Ref sig .tc), (Proc.devRef .tc r : DevRef τ sig).isScoped = false → s.mem ((c.tc : Thread nD τ).loc r) = at5 m c (Proc.devRef .tc r))
    ∧ s.sem = fun _ => 0

set_option backward.isDefEq.respectTransparency.types false in
theorem run_main : θ_run defs (onTc (τ := τ) (main (F := F))) ⟨m, fun _ => 0, ρ⟩ (fun r => Final m r.2) := by
  refine Pipeline.θ_run_regions_kit_dev_sems (pcfgs (F := F)) adm (pdats m) () cellOf_inj
    (embL : Emb (URounds (GSem nD τ sig) Unit) 𝕄) defs₀ Variants.none idx lev m ρ main
    (segs m Variants.none idx lev (fun _ => ride) () (pdats m) (rec0 m) (rec1 m) (rec2 m) (rec3 m))
    (fun c Q => by
      rewrite [main_chain c, Seg.run_eq_chain,
        show (segs m Variants.none idx lev (fun _ => ride) () (pdats m) (rec0 m) (rec1 m) (rec2 m) (rec3 m) c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [segs, Seg.pipes_host, Seg.pipes_region, Seg.pipes_nil]; decide)
    (fun _ => 0) (fun g hg => if_neg hg) (fun _ => iprop(emp))
    (initOf (Pipeline.cells cfgs cellOf_inj) (Pipeline.launchToks cfgs cellOf_inj), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ ride c))
    (Tₙ := fun c => StableHlo.held (c : Thread nD τ) (Pipeline.ucRefs τ sig) (at5 m c))
    (hch := fun c => ⟨.rfl, into0 m c, (outof0 m c).trans (into1 m c), (outof1 m c).trans (into2 m c), (outof2 m c).trans (into3 m c),
      (outof3 m c).trans (sep_mono .rfl (by unfold ride; iintro ⟨HO, -⟩; iexact HO))⟩)
    (hinit := ?_)
    (QY := fun c s => ∀ r : Ref sig .tc, (Proc.devRef .tc r : DevRef τ sig).isScoped = false → s.mem ((c.tc : Thread nD τ).loc r) = at5 m c (Proc.devRef .tc r))
    (hfin := fun c s' => ?_) (hQ := fun _ h hz => ⟨h, funext fun g => hz g (.inr (regions_no_unscoped g.2))⟩)
  · have hone : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp)
        ⊢ (iprop(StableHlo.held (c : Thread nD τ) (Pipeline.ucRefs τ sig) (V0 m c) ∗ ride c) : sProp 𝕄) := fun c => by
      rw [← Pipeline.unscopedBufs_held (Ix := Unit) (Name := ℕ) (U := Pipeline.UD sig nD τ) (Lvl := ℕ) c (V0 m c)]
      unfold ride
      iintro ⟨Hb, -, HO, -, Hp, He⟩
      isplitl [Hb]; · iexact Hb
      isplitl [HO]; · iexists _; iexact HO
      isplitl [Hp]; · iexists _; iexact Hp
      iexact He
    have hall : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ ride c) : sProp 𝕄) :=
      bigSep_mono fun c _ => hone c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (at5 m c) s') $$ [Hh HSI]
    · isplitl [Hh] <;> iassumption
    icases Hr with ⟨%h, HSI⟩
    imodintro
    isplitr
    · ipureintro
      intro r hr
      exact h (Proc.devRef .tc r) (Finset.mem_filter.mpr ⟨StableHlo.devRef_mem_tcRefs r, fun h' => Bool.false_ne_true (hr.symm.trans h')⟩)
    · iexact HSI

/-! ## The arguments are left as they were -/

/-- A buffer that no operation and no call writes ends as it began. -/
theorem at5_kept (c : Dev nD) (r : Ref sig .tc) (h0 : r ∉ hostOps0_W)
    (h1 : ∀ w, Pipeline.arrRef spec0 w = r → (cfg0.win w).isOut = false) (h2 : ∀ w, Pipeline.arrRef spec1 w = r → (cfg1.win w).isOut = false)
    (h3 : ∀ w, Pipeline.arrRef spec2 w = r → (cfg2.win w).isOut = false) (h4 : ∀ w, Pipeline.arrRef spec3 w = r → (cfg3.win w).isOut = false) :
    at5 m c (Proc.devRef .tc r) = m ((c : Thread nD τ).loc r) :=
  (Pipeline.afterRegion_keeps (dat3 (at4 m c) c) (at4 m c) winFacts3.arr_inj (fun _ => rfl) r h4).trans <|
    (Pipeline.afterRegion_keeps (dat2 (at3 m c) c) (at3 m c) winFacts2.arr_inj (fun _ => rfl) r h3).trans <|
    (Pipeline.afterRegion_keeps (dat1 (at2 m c) c) (at2 m c) winFacts1.arr_inj (fun _ => rfl) r h2).trans <|
    (Pipeline.afterRegion_keeps (dat0 (at1 m c) c) (at1 m c) winFacts0.arr_inj (fun _ => rfl) r h1).trans <|
    (V1_of m c r h0)

theorem final_kept {s : MemSt nD τ sig (Elt F)} (h : Final m s) (c : Dev nD) (r : Ref sig .tc) (hr : (Proc.devRef .tc r : DevRef τ sig).isScoped = false)
    (h0 : r ∉ hostOps0_W)
    (h1 : ∀ w, Pipeline.arrRef spec0 w = r → (cfg0.win w).isOut = false) (h2 : ∀ w, Pipeline.arrRef spec1 w = r → (cfg1.win w).isOut = false)
    (h3 : ∀ w, Pipeline.arrRef spec2 w = r → (cfg2.win w).isOut = false) (h4 : ∀ w, Pipeline.arrRef spec3 w = r → (cfg3.win w).isOut = false) :
    s.mem ((c.tc : Thread nD τ).loc r) = m ((c.tc : Thread nD τ).loc r) :=
  (h.1 c r hr).trans (at5_kept m c r h0 h1 h2 h3 h4)

/-- Every argument ends as launched. -/
def ArgsKept (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)

theorem args_kept {s : MemSt nD τ sig (Elt F)} (h : Final m s) : ArgsKept m s := fun c => by
  refine ⟨?_, ?_, ?_, ?_, ?_, ?_, ?_, ?_⟩ <;>
    exact final_kept m h c _ (by decide) (by decide) (by decide) (by decide) (by decide) (by decide)

theorem run_frame : θ_run defs (onTc (τ := τ) (main (F := F))) ⟨m, fun _ => 0, ρ⟩ (fun r => ArgsKept m r.2 ∧ r.2.sem = fun _ => 0) :=
  (θ_run defs _ _).mono (fun _ h => ⟨args_kept m h, h.2⟩) (run_main m ρ)

end Cert.KernelIdeal.Hand
-- ==== Proof.Value.Row.lean ====
/-
  The mathematics of one node's row, over the extended reals: the gate's logits, their soft maximum, the two ways of
  writing the gate, the mixing of the pooled matrix and the normalisation. The one equation with content is `gate_eq`:
  scaling a row by `a` before or after the soft maximum's entries are summed gives the same gate, also where a
  denominator vanishes or an entry is infinite.
-/
module

public import Idealize.ShloMosaic.Lib.Pipeline.ValueKit

@[expose] public section

noncomputable section

namespace Cert.Row

open Idealize.ShloMosaic

/-- A row of 100 features. -/
abbrev Vec100 := Fin 100 → EReal
/-- A 100 × 100 matrix. -/
abbrev Mat100 := Fin 100 → Fin 100 → EReal

/-- The row `x` times the matrix `W`. -/
def lin (x : Vec100) (W : Mat100) : Vec100 := fun k => ∑ i, x i * W i k

/-- The gate's logits of a row: a rectified step with a skip, then a product. -/
def act (U V : Mat100) (p : Vec100) : Vec100 := lin (fun j => max (lin p U j + p j) 0) V

/-- The largest entry, from minus infinity. -/
def top (x : Vec100) : EReal := Finset.univ.fold max (Ideal.ofBits .f32 0xFF800000#32) x

/-- The soft maximum. -/
def soft (x : Vec100) : Vec100 := fun k => Ideal.div (Ideal.exp (x k - top x)) (∑ j, Ideal.exp (x j - top x))

/-- The gate's small constant. -/
def eps : EReal := Ideal.ofBits .f32 0x322BCC77#32

/-- The gate of a row with weight `a`, the weight divided first. -/
def gate (a : EReal) (h : Vec100) : Vec100 := fun k => h k * Ideal.div a (a * ∑ j, h j + eps)

/-- The gate of a row with weight `a`, the row weighted first. -/
def gateW (a : EReal) (h : Vec100) : Vec100 := fun k => h k * a * Ideal.div 1 (∑ j, h j * a + eps)

/-- The row divided by its length, or by a tiny constant if that is larger. -/
def norm (x : Vec100) : Vec100 := fun d => Ideal.div (x d) (max (Ideal.sqrt (∑ j, x j * x j)) (Ideal.ofBits .f32 0x2B8CBCCC#32))

/-- The rows of `A` times `x`, for 10000 nodes. -/
def carry (A : Fin 10000 → Fin 10000 → EReal) (x : Fin 10000 → Vec100) : Fin 10000 → Vec100 :=
  fun n d => ∑ j, A n j * x j d

/-- The pooled matrix: the rows `p` summed under the gates `g`. -/
def pooled (g p : Fin 10000 → Vec100) : Mat100 := fun k d => ∑ n, g n k * p n d

/-- A sum gathered point by point from zero. -/
theorem gathered (N : ℕ) (s : ℕ → EReal) (f : Fin N → EReal) (h0 : s 0 = 0) (hs : ∀ t : Fin N, s (t.val + 1) = s t.val + f t) :
    s N = ∑ t, f t := by
  induction N with
  | zero => simpa using h0
  | succ N ih =>
    rw [Fin.sum_univ_castSucc, ← ih (fun t => f t.castSucc) fun t => hs t.castSucc]
    exact hs (Fin.last N)

/-- A row's mixed row: its soft maximum times the pooled matrix `M`. -/
def mixed (U V M : Mat100) (p : Vec100) : Vec100 := lin (soft (act U V p)) M

/-- What the network is applied to: the adjacency matrix, the nodes' weights and features, and the four matrices. -/
structure Net where
  adj : Fin 10000 → Fin 10000 → EReal
  wt : Fin 10000 → EReal
  emb : Fin 10000 → Vec100
  w0 : Mat100
  w1 : Mat100
  u : Mat100
  v : Mat100

namespace Net

variable (g : Net)

/-- The gates over the spread rows `p`, -/
def gates (p : Fin 10000 → Vec100) (n : Fin 10000) : Vec100 := gate (g.wt n) (soft (act g.u g.v (p n)))
/-- the mixed rows, -/
def mix (p : Fin 10000 → Vec100) (n : Fin 10000) : Vec100 := mixed g.u g.v (pooled (g.gates p) p) (p n)
/-- and the rows that a layer leaves. -/
def new (p : Fin 10000 → Vec100) (n : Fin 10000) : Vec100 := fun d => g.mix p n d + p n d

/-- The spread rows of the first layer, -/
def p1 : Fin 10000 → Vec100 := carry g.adj fun j => lin (g.emb j) g.w0
/-- and of the second. -/
def p2 : Fin 10000 → Vec100 := carry g.adj fun j => lin (g.new g.p1 j) g.w1

/-- The first result: the mean of the features and the two layers' rows, normalised. -/
def nodes (n : Fin 10000) : Vec100 :=
  fun d => (g.emb n d + norm (g.new g.p1 n) d + norm (g.new g.p2 n) d) * ((1 / 3 : ℝ) : EReal)
/-- The second result: the mean of the two layers' mixed rows, normalised. -/
def groups (n : Fin 10000) : Vec100 :=
  fun d => (norm (g.mix g.p1 n) d + norm (g.mix g.p2 n) d) * Ideal.ofBits .f32 0x3F000000#32

end Net

theorem exp_nonneg : ∀ x : EReal, 0 ≤ Ideal.exp x
  | ⊥ => le_rfl
  | ⊤ => le_top
  | (r : ℝ) => by
      show (0 : EReal) ≤ ((Real.exp r : ℝ) : EReal)
      exact_mod_cast (Real.exp_pos r).le

theorem eps_ne : eps ≠ 0 := by
  unfold eps
  simp [Ideal.ofBits, Ideal.ieee]

/-- A soft maximum has no negative entry, or every entry is minus infinity (its denominator vanished). -/
theorem soft_cases (x : Vec100) : (∀ k, 0 ≤ soft x k) ∨ ∀ k, soft x k = ⊥ := by
  have hz : 0 ≤ ∑ j, Ideal.exp (x j - top x) := Finset.sum_nonneg fun j _ => exp_nonneg _
  rcases eq_or_ne (∑ j, Ideal.exp (x j - top x)) 0 with h | h
  · right
    intro k
    have hk : Ideal.exp (x k - top x) = 0 :=
      (Finset.sum_eq_zero_iff_of_nonneg fun j _ => exp_nonneg _).1 h k (Finset.mem_univ k)
    unfold soft Ideal.div
    rw [if_pos h, if_neg (by rw [hk]; exact lt_irrefl _)]
  · left
    intro k
    unfold soft Ideal.div
    rw [if_neg h]
    exact mul_nonneg (exp_nonneg _) (EReal.inv_nonneg_of_nonneg hz)

/-- A sum of nonnegative terms may be scaled term by term. -/
theorem sum_mul_nonneg {ι : Type} (s : Finset ι) (h : ι → EReal) (a : EReal) (hh : ∀ k, 0 ≤ h k) :
    ∑ k ∈ s, h k * a = (∑ k ∈ s, h k) * a := by
  classical
  induction s using Finset.induction_on with
  | empty => simp
  | insert k s hk ih =>
      rw [Finset.sum_insert hk, Finset.sum_insert hk, ih,
        EReal.right_distrib_of_nonneg (hh k) (Finset.sum_nonneg fun j _ => hh j)]

/-- So may a sum of minus infinities. -/
theorem sum_mul_bot {n : ℕ} (a : EReal) : ∑ _k : Fin (n + 1), (⊥ : EReal) * a = (∑ _k : Fin (n + 1), (⊥ : EReal)) * a := by
  have hs : ∀ x : EReal, x = ⊥ ∨ x = ⊤ ∨ x = 0 → ∑ _k : Fin (n + 1), x = x := by
    intro x hx
    induction n with
    | zero => simp
    | succ n ih =>
        rw [Fin.sum_univ_succ, ih]
        rcases hx with rfl | rfl | rfl <;> simp
  rw [hs ⊥ (Or.inl rfl), hs]
  rcases lt_trichotomy a 0 with h | h | h
  · exact Or.inr (Or.inl (EReal.bot_mul_of_neg h))
  · right; right; rw [h, mul_zero]
  · exact Or.inl (EReal.bot_mul_of_pos h)

/-- Weighting the row first or dividing the weight first gives the same gate. -/
theorem gate_eq (a : EReal) (x : Vec100) : gateW a (soft x) = gate a (soft x) := by
  have hs : ∑ j, soft x j * a = a * ∑ j, soft x j := by
    rw [mul_comm a]
    rcases soft_cases x with h | h
    · exact sum_mul_nonneg _ _ a h
    · rw [Finset.sum_congr rfl fun j _ => by rw [h j], sum_mul_bot, Finset.sum_congr rfl fun j _ => (h j).symm]
  funext k
  unfold gateW gate
  rw [hs]
  unfold Ideal.div
  split
  · next hD =>
    rw [if_pos zero_lt_one]
    have ha : a ≠ 0 := by
      rintro rfl
      rw [zero_mul, zero_add] at hD
      exact eps_ne hD
    rcases soft_cases x with h | h
    · rcases lt_or_gt_of_ne ha with h0 | h0
      · rw [if_neg (not_lt_of_gt h0)]
        rcases (h k).eq_or_lt with h1 | h1
        · rw [← h1, zero_mul, zero_mul, zero_mul]
        · rw [EReal.mul_top_of_neg (EReal.mul_neg_iff.2 (Or.inl ⟨h1, h0⟩)), EReal.mul_bot_of_pos h1]
      · rw [if_pos h0]
        rcases (h k).eq_or_lt with h1 | h1
        · rw [← h1, zero_mul, zero_mul]
        · rw [EReal.mul_top_of_pos (EReal.mul_pos h1 h0), EReal.mul_top_of_pos h1]
    · rw [h k]
      rcases lt_or_gt_of_ne ha with h0 | h0
      · rw [if_neg (not_lt_of_gt h0), EReal.bot_mul_of_neg h0]; rfl
      · rw [if_pos h0, EReal.bot_mul_of_pos h0]
  · rw [one_mul, mul_assoc]

/-- The word of a half is a half, and dividing by the word of two is multiplying by it. -/
theorem half (x : EReal) : Ideal.div x (Ideal.ofBits .f32 0x40000000#32) = x * Ideal.ofBits .f32 0x3F000000#32 := by
  have h2 : Ideal.ofBits .f32 0x40000000#32 = ((2 : ℝ) : EReal) := by
    simp [Ideal.ofBits, Ideal.ieee, -EReal.coe_mul]
    norm_num
  have h1 : Ideal.ofBits .f32 0x3F000000#32 = ((1 / 2 : ℝ) : EReal) := by
    simp [Ideal.ofBits, Ideal.ieee, -EReal.coe_mul]
    norm_num
  rw [h2, h1, Ideal.div_coe (by norm_num)]

/-- Dividing by the word of three is multiplying by a third. -/
theorem third (x : EReal) : Ideal.div x (Ideal.ofBits .f32 0x40400000#32) = x * ((1 / 3 : ℝ) : EReal) := by
  have h3 : Ideal.ofBits .f32 0x40400000#32 = ((3 : ℝ) : EReal) := by
    simp [Ideal.ofBits, Ideal.ieee, -EReal.coe_mul]
    norm_num
  rw [h3, Ideal.div_coe (by norm_num)]

/-- The largest entry taken again with its own start. -/
theorem top_idem (x : Vec100) : max (Ideal.ofBits .f32 0xFF800000#32) (top x) = top x := by
  refine max_eq_right ?_
  exact (Finset.le_fold_max _).2 (Or.inl le_rfl)

end Cert.Row

end
-- ==== Proof.Value.Blocks.lean ====
/-
  What each body computes on a block, read at one element: the products with the adjacency rows, the gate of a row, the
  pooled block, and the two closing steps.
-/
module

public import proofs.«01_k».proof.Proof.Ideal.Launch
public import proofs.«01_k».proof.Proof.Value.Row

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic

/-- A 100 × 100 block as a matrix of extended reals. -/
abbrev mat (x : Vec Ideal S100x100 .f32) : Mat100 := fun i j => x (ix2 i j)

/-- The first call's operand: the embeddings times the layer's weight. -/
theorem k0_pay9_at (e : Vec Ideal S10000x100 .f32) (w : Vec Ideal S100x100 .f32) (j : Fin 10000) (d : Fin 100) :
    k0_pay9 e w (ix2 j d) = lin (fun i => e (ix2 j i)) (mat w) d := by
  pointwise [k0_pay9]
  rfl

/-- A block of adjacency rows times the operand. -/
theorem k0_pay5_at (A : Vec Ideal S400x10000 .f32) (x : Vec Ideal S10000x100 .f32) (r : Fin 400) (d : Fin 100) :
    k0_pay5 A x (ix2 r d) = ∑ j, A (ix2 r j) * x (ix2 j d) := by
  pointwise [k0_pay5]

theorem k2_pay5_at (A : Vec Ideal S400x10000 .f32) (x : Vec Ideal S10000x100 .f32) (r : Fin 400) (d : Fin 100) :
    k2_pay5 A x (ix2 r d) = ∑ j, A (ix2 r j) * x (ix2 j d) := by
  pointwise [k2_pay5]

/-- The gate of a block's row. -/
theorem k0_pay6_at (A : Vec Ideal S400x10000 .f32) (x : Vec Ideal S10000x100 .f32) (u v : Vec Ideal S100x100 .f32)
    (a : Vec Ideal S400x1 .f32) (r : Fin 400) (k : Fin 100) :
    k0_pay6 A x u v a (ix2 r k)
      = gate (a (ix2 r 0)) (soft (act (mat u) (mat v) fun d => k0_pay5 A x (ix2 r d))) k := by
  unfold k0_pay6
  generalize k0_pay5 A x = P
  pointwise
  rfl

theorem k2_pay6_at (A : Vec Ideal S400x10000 .f32) (x : Vec Ideal S10000x100 .f32) (u v : Vec Ideal S100x100 .f32)
    (a : Vec Ideal S400x1 .f32) (r : Fin 400) (k : Fin 100) :
    k2_pay6 A x u v a (ix2 r k)
      = gate (a (ix2 r 0)) (soft (act (mat u) (mat v) fun d => k2_pay5 A x (ix2 r d))) k := by
  unfold k2_pay6
  generalize k2_pay5 A x = P
  pointwise
  rfl

/-- The pooled matrix after a block: what it held, and the block's gates times the block's rows. -/
theorem k0_pay2_at (p g : Vec Ideal S400x100 .f32) (s : Vec Ideal S100x100 .f32) (k d : Fin 100) :
    k0_pay2 p g s (ix2 k d) = s (ix2 k d) + ∑ r, g (ix2 r k) * p (ix2 r d) := by
  pointwise [k0_pay2]

theorem k2_pay2_at (p g : Vec Ideal S400x100 .f32) (s : Vec Ideal S100x100 .f32) (k d : Fin 100) :
    k2_pay2 p g s (ix2 k d) = s (ix2 k d) + ∑ r, g (ix2 r k) * p (ix2 r d) := by
  pointwise [k2_pay2]

theorem k0_pay1_at (k d : Fin 100) : k0_pay1 (F := Ideal) (ix2 k d) = 0 := by
  pointwise [k0_pay1]

theorem k2_pay1_at (k d : Fin 100) : k2_pay1 (F := Ideal) (ix2 k d) = 0 := by
  pointwise [k2_pay1]

theorem k1_pay4_at (p : Vec Ideal S2000x100 .f32) (u v hi : Vec Ideal S100x100 .f32) (r : Fin 2000) (d : Fin 100) :
    k1_pay4 p u v hi (ix2 r d) = mixed (mat u) (mat v) (mat hi) (fun d => p (ix2 r d)) d := by
  pointwise [k1_pay4, k1_pay3]
  rfl

theorem k3_pay3_at (p : Vec Ideal S2000x100 .f32) (u v hi : Vec Ideal S100x100 .f32) (r : Fin 2000) (d : Fin 100) :
    k3_pay3 p u v hi (ix2 r d) = mixed (mat u) (mat v) (mat hi) (fun d => p (ix2 r d)) d := by
  pointwise [k3_pay3, k3_pay2]
  rfl

/-- The first layer's row with its skip. -/
theorem k1_pay5_at (p : Vec Ideal S2000x100 .f32) (u v hi : Vec Ideal S100x100 .f32) (r : Fin 2000) (d : Fin 100) :
    k1_pay5 p u v hi (ix2 r d) = mixed (mat u) (mat v) (mat hi) (fun d => p (ix2 r d)) d + p (ix2 r d) := by
  rw [← k1_pay4_at]
  unfold k1_pay5
  generalize k1_pay4 p u v hi = P
  pointwise [k1_pay3]

theorem k1_pay6_at (p : Vec Ideal S2000x100 .f32) (u v hi : Vec Ideal S100x100 .f32) (r : Fin 2000) (d : Fin 100) :
    k1_pay6 p u v hi (ix2 r d)
      = norm (fun d => mixed (mat u) (mat v) (mat hi) (fun d => p (ix2 r d)) d + p (ix2 r d)) d := by
  rw [← funext fun d => k1_pay5_at p u v hi r d]
  unfold k1_pay6
  generalize k1_pay5 p u v hi = P
  pointwise
  rfl

theorem k1_pay1_at (p : Vec Ideal S2000x100 .f32) (u v hi : Vec Ideal S100x100 .f32) (r : Fin 2000) (d : Fin 100) :
    k1_pay1 (k1_pay4 p u v hi) (k1_pay7 p u v hi) (ix2 r d)
      = norm (mixed (mat u) (mat v) (mat hi) fun d => p (ix2 r d)) d := by
  rw [← funext fun d => k1_pay4_at p u v hi r d]
  unfold k1_pay7
  generalize k1_pay4 p u v hi = P
  pointwise [k1_pay1]
  rfl

/-- The second layer's operand. -/
theorem k1_pay2_at (y : Vec Ideal S2000x100 .f32) (w : Vec Ideal S100x100 .f32) (r : Fin 2000) (d : Fin 100) :
    k1_pay2 y w (ix2 r d) = lin (fun i => y (ix2 r i)) (mat w) d := by
  pointwise [k1_pay2]
  rfl

/-- The first result's row: a third of the embedding, the first layer's normalised row and the second's. -/
theorem k3_pay4_at (p e n : Vec Ideal S2000x100 .f32) (u v hi : Vec Ideal S100x100 .f32) (r : Fin 2000) (d : Fin 100) :
    k3_pay4 p u v hi e n (ix2 r d)
      = (e (ix2 r d) + n (ix2 r d)
          + norm (fun d => mixed (mat u) (mat v) (mat hi) (fun d => p (ix2 r d)) d + p (ix2 r d)) d) * ((1 / 3 : ℝ) : EReal) := by
  simp only [← k3_pay3_at]
  unfold k3_pay4
  generalize k3_pay3 p u v hi = P
  pointwise [k3_pay2]
  rw [IdealRules.named_const.ideal_named_scalar _ _ _ _ rfl]
  rfl

/-- The second result's row: half of the two layers' normalised mixed rows. -/
theorem k3_pay1_at (p g : Vec Ideal S2000x100 .f32) (u v hi : Vec Ideal S100x100 .f32) (r : Fin 2000) (d : Fin 100) :
    k3_pay1 (k3_pay3 p u v hi) g (ix2 r d)
      = (g (ix2 r d) + norm (mixed (mat u) (mat v) (mat hi) fun d => p (ix2 r d)) d) * Ideal.ofBits .f32 0x3F000000#32 := by
  rw [← funext fun d => k3_pay3_at p u v hi r d]
  generalize k3_pay3 p u v hi = P
  pointwise [k3_pay1]
  rfl

end Cert.KernelIdeal.Hand

end
-- ==== Proof.Value.Closing.lean ====
/-
  The arrays that the two closing calls leave, row by row, over the contents they start from.
-/
module

public import proofs.«01_k».proof.Proof.Value.Blocks

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic
open Idealize.ShloMosaic.Pipeline (Dat)

/-- Row `n` of an array of nodes. -/
abbrev rowOf (x : Vec Ideal S10000x100 .f32) (n : Fin 10000) : Vec100 := fun d => x (ix2 n d)
/-- The array whose rows are `f`. -/
abbrev ofRows (f : Fin 10000 → Vec100) : Vec Ideal S10000x100 .f32 := fun i => f (i 0) (i 1)

/-- Row `r` of the block of point `t`, of 2000 rows to a point and five points. -/
def nth (t : Fin 5) (r : Fin 2000) : Fin 10000 := ⟨t.val * 2000 + r.val, by omega⟩

theorem exists_ix2 {a b : ℕ} (y : Shape.Idx ⟨2, ![a, b]⟩) : ∃ (r : Fin a) (d : Fin b), y = ix2 r d :=
  ⟨y 0, y 1, by funext i; fin_cases i <;> rfl⟩

variable (V : Valuation τ sig (Elt Ideal))

/-! ## After the first pass -/

theorem idx1 : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![t.val, 0] ∧ win1_6.index t = ![t.val, 0]
    ∧ win1_7.index t = ![t.val, 0] :=
  (by decide +kernel : ∀ t : Fin grid1.N, _)

/-- A row of the block is a row of the array, and the small windows hold whole matrices. -/
theorem reads1 (t : Fin cfg1.N) : (∀ r d, p1 V t (ix2 r d) = rowOf (V (Proc.devRef .tc main_v1_0)) (nth t r) d)
    ∧ u1 V t = V (Proc.devRef .tc main_arg5) ∧ v1 V t = V (Proc.devRef .tc main_arg6)
    ∧ hi1 V t = V (Proc.devRef .tc main_v1_1) ∧ w1 V t = V (Proc.devRef .tc main_arg4) := by
  refine ⟨fun r d => ?_, ?_, ?_, ?_, ?_⟩
  · blk_ext [in1, idx1 t, nth]
  all_goals blk_ext! [in1, idx1 t]

/-- The mixed row `n` of the first closing call. -/
def mix1 (n : Fin 10000) : Vec100 :=
  mixed (mat (V (Proc.devRef .tc main_arg5))) (mat (V (Proc.devRef .tc main_arg6))) (mat (V (Proc.devRef .tc main_v1_1)))
    (rowOf (V (Proc.devRef .tc main_v1_0)) n)

/-- The row with the mixed one added. -/
def new1 (n : Fin 10000) : Vec100 := fun d => mix1 V n d + rowOf (V (Proc.devRef .tc main_v1_0)) n d

theorem arr1_5 (c : Dev nD) : (dat1 V c).arrAt 5 cfg1.N = ofRows fun n => norm (new1 V n) := by
  refine (dat1 V c).arrAt_eq_of_covers 5 _ (by decide +kernel) fun t hf y => ?_
  blk_simp
  obtain ⟨r, d, rfl⟩ := exists_ix2 y
  have e : (win1_5.blk t).view.emb (ix2 r d) = ix2 (nth t r) d := by blk_ext [idx1 t, nth]
  obtain ⟨hp, hu, hv, hh, hw⟩ := reads1 V t
  rw [e]
  show out1_5 V t (ix2 r d) = _
  simp only [out1_5, k1_pay6_at, hp, hu, hv, hh]
  rfl

theorem arr1_6 (c : Dev nD) : (dat1 V c).arrAt 6 cfg1.N = ofRows fun n => norm (mix1 V n) := by
  refine (dat1 V c).arrAt_eq_of_covers 6 _ (by decide +kernel) fun t hf y => ?_
  blk_simp
  obtain ⟨r, d, rfl⟩ := exists_ix2 y
  have e : (win1_6.blk t).view.emb (ix2 r d) = ix2 (nth t r) d := by blk_ext [idx1 t, nth]
  obtain ⟨hp, hu, hv, hh, hw⟩ := reads1 V t
  rw [e]
  show out1_6 V t (ix2 r d) = _
  simp only [out1_6, k1_pay1_at, hp, hu, hv, hh]
  rfl

theorem arr1_7 (c : Dev nD) : (dat1 V c).arrAt 7 cfg1.N = ofRows fun n => lin (new1 V n) (mat (V (Proc.devRef .tc main_arg4))) := by
  refine (dat1 V c).arrAt_eq_of_covers 7 _ (by decide +kernel) fun t hf y => ?_
  blk_simp
  obtain ⟨r, d, rfl⟩ := exists_ix2 y
  have e : (win1_7.blk t).view.emb (ix2 r d) = ix2 (nth t r) d := by blk_ext [idx1 t, nth]
  obtain ⟨hp, hu, hv, hh, hw⟩ := reads1 V t
  rw [e]
  show out1_7 V t (ix2 r d) = _
  simp only [out1_7, k1_pay2_at, k1_pay5_at, hp, hu, hv, hh, hw]
  rfl

/-! ## After the second pass -/

theorem idx3 : ∀ t : Fin cfg3.N, win3_0.index t = ![t.val, 0] ∧ win3_1.index t = ![0, 0] ∧ win3_2.index t = ![0, 0]
    ∧ win3_3.index t = ![0, 0] ∧ win3_4.index t = ![t.val, 0] ∧ win3_5.index t = ![t.val, 0] ∧ win3_6.index t = ![t.val, 0]
    ∧ win3_7.index t = ![t.val, 0] ∧ win3_8.index t = ![t.val, 0] :=
  (by decide +kernel : ∀ t : Fin grid3.N, _)

theorem reads3 (t : Fin cfg3.N) : (∀ r d, p3 V t (ix2 r d) = rowOf (V (Proc.devRef .tc main_v3_0)) (nth t r) d)
    ∧ u3 V t = V (Proc.devRef .tc main_arg5) ∧ v3 V t = V (Proc.devRef .tc main_arg6)
    ∧ hi3 V t = V (Proc.devRef .tc main_v3_1)
    ∧ (∀ r d, e3 V t (ix2 r d) = rowOf (V (Proc.devRef .tc main_arg2)) (nth t r) d)
    ∧ (∀ r d, n3 V t (ix2 r d) = rowOf (V (Proc.devRef .tc main_v2_0)) (nth t r) d)
    ∧ (∀ r d, g3 V t (ix2 r d) = rowOf (V (Proc.devRef .tc main_v2_1)) (nth t r) d) := by
  refine ⟨fun r d => ?_, ?_, ?_, ?_, fun r d => ?_, fun r d => ?_, fun r d => ?_⟩
  · blk_ext [in3, idx3 t, nth]
  · blk_ext! [in3, idx3 t]
  · blk_ext! [in3, idx3 t]
  · blk_ext! [in3, idx3 t]
  all_goals blk_ext [in3, idx3 t, nth]

/-- The mixed row `n` of the second closing call. -/
def mix3 (n : Fin 10000) : Vec100 :=
  mixed (mat (V (Proc.devRef .tc main_arg5))) (mat (V (Proc.devRef .tc main_arg6))) (mat (V (Proc.devRef .tc main_v3_1)))
    (rowOf (V (Proc.devRef .tc main_v3_0)) n)

/-- The row with the mixed one added. -/
def new3 (n : Fin 10000) : Vec100 := fun d => mix3 V n d + rowOf (V (Proc.devRef .tc main_v3_0)) n d

theorem arr3_7 (c : Dev nD) : (dat3 V c).arrAt 7 cfg3.N = ofRows fun n d =>
    (rowOf (V (Proc.devRef .tc main_arg2)) n d + rowOf (V (Proc.devRef .tc main_v2_0)) n d + norm (new3 V n) d)
      * ((1 / 3 : ℝ) : EReal) := by
  refine (dat3 V c).arrAt_eq_of_covers 7 _ (by decide +kernel) fun t hf y => ?_
  blk_simp
  obtain ⟨r, d, rfl⟩ := exists_ix2 y
  have e : (win3_7.blk t).view.emb (ix2 r d) = ix2 (nth t r) d := by blk_ext [idx3 t, nth]
  obtain ⟨hp, hu, hv, hh, he, hn, hg⟩ := reads3 V t
  rw [e]
  show out3_7 V t (ix2 r d) = _
  simp only [out3_7, k3_pay4_at, hp, hu, hv, hh, he, hn]
  rfl

theorem arr3_8 (c : Dev nD) : (dat3 V c).arrAt 8 cfg3.N = ofRows fun n d =>
    (rowOf (V (Proc.devRef .tc main_v2_1)) n d + norm (mix3 V n) d) * Ideal.ofBits .f32 0x3F000000#32 := by
  refine (dat3 V c).arrAt_eq_of_covers 8 _ (by decide +kernel) fun t hf y => ?_
  blk_simp
  obtain ⟨r, d, rfl⟩ := exists_ix2 y
  have e : (win3_8.blk t).view.emb (ix2 r d) = ix2 (nth t r) d := by blk_ext [idx3 t, nth]
  obtain ⟨hp, hu, hv, hh, he, hn, hg⟩ := reads3 V t
  rw [e]
  show out3_8 V t (ix2 r d) = _
  simp only [out3_8, k3_pay1_at, hp, hu, hv, hh, hg]
  rfl

end Cert.KernelIdeal.Hand

end
-- ==== Proof.Value.Passes.lean ====
/-
  The arrays that the two passes over the adjacency matrix leave: each node's spread row, and the pooled matrix, which
  is gathered over the 25 blocks of rows.
-/
module

public import proofs.«01_k».proof.Proof.Value.Closing

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic
open Idealize.ShloMosaic.Pipeline (Dat)

/-- Row `r` of block `t`, of 400 rows to a block. -/
def blkRow (t : Fin 25) (r : Fin 400) : Fin 10000 := ⟨t.val * 400 + r.val, by omega⟩

/-- A sum over the blocks and their rows is a sum over the nodes. -/
theorem sum_blkRow (g : Fin 10000 → EReal) : ∑ t : Fin 25, ∑ r : Fin 400, g (blkRow t r) = ∑ n, g n :=
  Fin.sum_mul_add_fin 25 400 g

variable (V : Valuation τ sig (Elt Ideal))

theorem blockRows_at (c : Dev nD) (b : Fin 25) (r : Fin 400) (j : Fin 10000) :
    blockRows V c b (ix2 r j) = V (Proc.devRef .tc main_arg1) (ix2 (blkRow b r) j) := by
  show V (Proc.devRef .tc main_arg1) ((rows b).view.emb (ix2 r j)) = _
  refine congrArg (V (Proc.devRef .tc main_arg1)) ?_
  funext a
  apply Fin.ext
  fin_cases a
  · show 400 * b.val + 1 * r.val = b.val * 400 + r.val
    omega
  · show 0 + 1 * j.val = j.val
    omega

/-- The adjacency matrix, row by row. -/
def adjOf : Fin 10000 → Fin 10000 → EReal := fun n j => (V (Proc.devRef .tc main_arg1) : Vec Ideal S10000x10000 .f32) (ix2 n j)

/-! ## The first pass -/

theorem idx0 : ∀ t : Fin cfg0.N, win0_0.index t = ![0, 0] ∧ win0_1.index t = ![0, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

theorem reads0 (t : Fin cfg0.N) : e0 V t = V (Proc.devRef .tc main_arg2) ∧ w0 V t = V (Proc.devRef .tc main_arg3)
    ∧ u0 V t = V (Proc.devRef .tc main_arg5) ∧ v0 V t = V (Proc.devRef .tc main_arg6)
    ∧ ∀ r, j0 V t (ix2 r 0) = (V (Proc.devRef .tc main_v0) : Vec Ideal S10000x1 .f32) (ix2 (blkRow t r) 0) := by
  refine ⟨?_, ?_, ?_, ?_, fun r => ?_⟩
  iterate 4 · blk_ext! [in0, idx0 t]
  · blk_ext [in0, idx0 t, blkRow]

/-- The spread rows of the first pass. -/
def carry0 : Fin 10000 → Vec100 :=
  carry (adjOf V) fun j => lin (rowOf (V (Proc.devRef .tc main_arg2)) j) (mat (V (Proc.devRef .tc main_arg3)))

/-- A node's gate in the pass whose spread rows are `p`. -/
def gateOf (p : Fin 10000 → Vec100) (n : Fin 10000) : Vec100 :=
  gate ((V (Proc.devRef .tc main_v0) : Vec Ideal S10000x1 .f32) (ix2 n 0))
    (soft (act (mat (V (Proc.devRef .tc main_arg5))) (mat (V (Proc.devRef .tc main_arg6))) (p n)))

theorem out0_5_at (c : Dev nD) (t : Fin cfg0.N) (r : Fin 400) (d : Fin 100) :
    out0_5 V c t (ix2 r d) = carry0 V (blkRow t r) d := by
  obtain ⟨he, hw, hu, hv, hj⟩ := reads0 V pt0
  simp only [out0_5, k0_pay5_at, x0, k0_pay9_at, he, hw, blockRows_at]
  rfl

theorem gate0_at (c : Dev nD) (t : Fin cfg0.N) (r : Fin 400) (k : Fin 100) :
    gate0 V c t (ix2 r k) = gateOf V (carry0 V) (blkRow t r) k := by
  obtain ⟨he, hw, hu, hv, hj⟩ := reads0 V t
  have h := out0_5_at V c t r
  rw [out0_5] at h
  simp only [gate0, k0_pay6_at, hu, hv, hj, h]
  rfl

theorem arr0_5 (c : Dev nD) : (dat0 V c).arrAt 5 cfg0.N = ofRows (carry0 V) := by
  refine (dat0 V c).arrAt_eq_of_covers 5 _ (by decide +kernel) fun t hf y => ?_
  blk_simp
  obtain ⟨r, d, rfl⟩ := exists_ix2 y
  have e : (win0_5.blk t).view.emb (ix2 r d) = ix2 (blkRow t r) d := by blk_ext [idx0 t, blkRow]
  rw [e]
  exact out0_5_at V c t r d

theorem sum0_step (c : Dev nD) (t : Fin cfg0.N) (k d : Fin 100) : sum0 V c (t.val + 1) (ix2 k d)
    = sum0 V c t.val (ix2 k d) + ∑ r, gateOf V (carry0 V) (blkRow t r) k * carry0 V (blkRow t r) d := by
  rw [sum0_succ V c t, k0_pay2_at]
  simp only [gate0_at, out0_5_at]

theorem sum0_at (c : Dev nD) (k d : Fin 100) : sum0 V c 25 (ix2 k d) = pooled (gateOf V (carry0 V)) (carry0 V) k d := by
  exact (gathered 25 (fun n => sum0 V c n (ix2 k d))
    (fun t => ∑ r, gateOf V (carry0 V) (blkRow t r) k * carry0 V (blkRow t r) d) (k0_pay1_at k d) fun t => sum0_step V c t k d).trans
    (sum_blkRow fun n => gateOf V (carry0 V) n k * carry0 V n d)

theorem arr0_6 (c : Dev nD) : (dat0 V c).arrAt 6 cfg0.N = fun i : S100x100.Idx => pooled (gateOf V (carry0 V)) (carry0 V) (i 0) (i 1) := by
  refine (dat0 V c).arrAt_eq_of_covers 6 _ (by decide +kernel) fun t hf y => ?_
  blk_simp
  obtain ⟨k, d, rfl⟩ := exists_ix2 y
  have e : (win0_6.blk t).view.emb (ix2 k d) = ix2 k d := by blk_ext [idx0 t]
  have ht : t.val + 1 = 25 := by
    have h := (flush0_6 t).1 hf
    have h' : t.val < 25 := t.isLt
    omega
  rw [e]
  show sum0 V c (t.val + 1) (ix2 k d) = _
  rw [ht]
  exact sum0_at V c k d

/-! ## The second pass -/

theorem idx2 : ∀ t : Fin cfg2.N, win2_0.index t = ![0, 0] ∧ win2_1.index t = ![0, 0] ∧ win2_2.index t = ![0, 0]
    ∧ win2_3.index t = ![t.val, 0] ∧ win2_4.index t = ![t.val, 0] ∧ win2_5.index t = ![0, 0] :=
  (by decide +kernel : ∀ t : Fin grid2.N, _)

theorem reads2 (t : Fin cfg2.N) : x2 V t = V (Proc.devRef .tc main_v2_2)
    ∧ u2 V t = V (Proc.devRef .tc main_arg5) ∧ v2 V t = V (Proc.devRef .tc main_arg6)
    ∧ ∀ r, j2 V t (ix2 r 0) = (V (Proc.devRef .tc main_v0) : Vec Ideal S10000x1 .f32) (ix2 (blkRow t r) 0) := by
  refine ⟨?_, ?_, ?_, fun r => ?_⟩
  iterate 3 · blk_ext! [in2, idx2 t]
  · blk_ext [in2, idx2 t, blkRow]

/-- The spread rows of the second pass. -/
def carry2 : Fin 10000 → Vec100 := carry (adjOf V) (rowOf (V (Proc.devRef .tc main_v2_2)))

theorem out2_4_at (c : Dev nD) (t : Fin cfg2.N) (r : Fin 400) (d : Fin 100) :
    out2_4 V c t (ix2 r d) = carry2 V (blkRow t r) d := by
  obtain ⟨hx, hu, hv, hj⟩ := reads2 V t
  simp only [out2_4, k2_pay5_at, hx, blockRows_at]
  rfl

theorem gate2_at (c : Dev nD) (t : Fin cfg2.N) (r : Fin 400) (k : Fin 100) :
    gate2 V c t (ix2 r k) = gateOf V (carry2 V) (blkRow t r) k := by
  obtain ⟨hx, hu, hv, hj⟩ := reads2 V t
  have h := out2_4_at V c t r
  rw [out2_4] at h
  simp only [gate2, k2_pay6_at, hu, hv, hj, h]
  rfl

theorem arr2_4 (c : Dev nD) : (dat2 V c).arrAt 4 cfg2.N = ofRows (carry2 V) := by
  refine (dat2 V c).arrAt_eq_of_covers 4 _ (by decide +kernel) fun t hf y => ?_
  blk_simp
  obtain ⟨r, d, rfl⟩ := exists_ix2 y
  have e : (win2_4.blk t).view.emb (ix2 r d) = ix2 (blkRow t r) d := by blk_ext [idx2 t, blkRow]
  rw [e]
  exact out2_4_at V c t r d

theorem sum2_step (c : Dev nD) (t : Fin cfg2.N) (k d : Fin 100) : sum2 V c (t.val + 1) (ix2 k d)
    = sum2 V c t.val (ix2 k d) + ∑ r, gateOf V (carry2 V) (blkRow t r) k * carry2 V (blkRow t r) d := by
  rw [sum2_succ V c t, k2_pay2_at]
  simp only [gate2_at, out2_4_at]

theorem sum2_at (c : Dev nD) (k d : Fin 100) : sum2 V c 25 (ix2 k d) = pooled (gateOf V (carry2 V)) (carry2 V) k d := by
  exact (gathered 25 (fun n => sum2 V c n (ix2 k d))
    (fun t => ∑ r, gateOf V (carry2 V) (blkRow t r) k * carry2 V (blkRow t r) d) (k2_pay1_at k d) fun t => sum2_step V c t k d).trans
    (sum_blkRow fun n => gateOf V (carry2 V) n k * carry2 V n d)

theorem arr2_5 (c : Dev nD) : (dat2 V c).arrAt 5 cfg2.N = fun i : S100x100.Idx => pooled (gateOf V (carry2 V)) (carry2 V) (i 0) (i 1) := by
  refine (dat2 V c).arrAt_eq_of_covers 5 _ (by decide +kernel) fun t hf y => ?_
  blk_simp
  obtain ⟨k, d, rfl⟩ := exists_ix2 y
  have e : (win2_5.blk t).view.emb (ix2 k d) = ix2 k d := by blk_ext [idx2 t]
  have ht : t.val + 1 = 25 := by
    have h := (flush2_5 t).1 hf
    have h' : t.val < 25 := t.isLt
    omega
  rw [e]
  show sum2 V c (t.val + 1) (ix2 k d) = _
  rw [ht]
  exact sum2_at V c k d

end Cert.KernelIdeal.Hand

end
-- ==== Proof.Value.Chain.lean ====
/-
  The contents after each of the four kernel calls, as functions of the arguments, up to the two results.
-/
module

public import proofs.«01_k».proof.Proof.Value.Passes
public import proofs.«01_k».proof.Proof.Ideal.Launch
public import Idealize.ShloMosaic.Lib.Claim

@[expose] public section

set_option maxRecDepth 16384

noncomputable section

namespace Cert.KernelIdeal.Hand

open Cert.KernelIdeal Cert.KernelIdeal.Gen Cert.Row
open Idealize.ShloMosaic Idealize.ShloMosaic.TcCoe Idealize.ShloMosaic.Tactic
open Idealize.ShloMosaic.Pipeline (Dat)

/-- The buffers that the calls only read. -/
def readOnly : List (Ref sig .tc) := [main_arg1, main_arg2, main_arg3, main_arg4, main_arg5, main_arg6, main_v0]

/-- The contents `V` hold the network `g` in the buffers that the calls only read. -/
structure Holds (V : Valuation τ sig (Elt Ideal)) (g : Net) : Prop where
  adj : adjOf V = g.adj
  wt : (fun n : Fin 10000 => (V (Proc.devRef .tc main_v0) : Vec Ideal S10000x1 .f32) (ix2 n 0)) = g.wt
  emb : rowOf (V (Proc.devRef .tc main_arg2)) = g.emb
  w0 : mat (V (Proc.devRef .tc main_arg3)) = g.w0
  w1 : mat (V (Proc.devRef .tc main_arg4)) = g.w1
  u : mat (V (Proc.devRef .tc main_arg5)) = g.u
  v : mat (V (Proc.devRef .tc main_arg6)) = g.v

theorem Holds.congr {V V' : Valuation τ sig (Elt Ideal)} {g : Net} (h : Holds V g)
    (e : ∀ r ∈ readOnly, V' (Proc.devRef .tc r) = V (Proc.devRef .tc r)) : Holds V' g where
  adj := (funext fun n => funext fun j => congrFun (e main_arg1 (by simp [readOnly])) (ix2 n j)).trans h.adj
  wt := by rw [← h.wt, e main_v0 (by simp [readOnly])]
  emb := by rw [← h.emb, e main_arg2 (by simp [readOnly])]
  w0 := by rw [← h.w0, e main_arg3 (by simp [readOnly])]
  w1 := by rw [← h.w1, e main_arg4 (by simp [readOnly])]
  u := by rw [← h.u, e main_arg5 (by simp [readOnly])]
  v := by rw [← h.v, e main_arg6 (by simp [readOnly])]

variable {V : Valuation τ sig (Elt Ideal)} {g : Net}

/-! ## Each call's arrays, over a network -/

theorem Holds.carry0 (h : Holds V g) : carry0 V = g.p1 := by
  rw [Hand.carry0, Net.p1, h.adj, h.emb, h.w0]

theorem Holds.gateOf (h : Holds V g) (p : Fin 10000 → Vec100) : gateOf V p = g.gates p := by
  funext n
  rw [Hand.gateOf, Net.gates, h.u, h.v, ← h.wt]

theorem Holds.mix1 (h : Holds V g) (p : Fin 10000 → Vec100) (hp : V (Proc.devRef .tc main_v1_0) = ofRows p)
    (hM : V (Proc.devRef .tc main_v1_1) = fun i : S100x100.Idx => pooled (g.gates p) p (i 0) (i 1)) : mix1 V = g.mix p := by
  funext n
  rw [Hand.mix1, hp, hM, h.u, h.v]
  rfl

theorem Holds.new1 (h : Holds V g) (p : Fin 10000 → Vec100) (hp : V (Proc.devRef .tc main_v1_0) = ofRows p)
    (hM : V (Proc.devRef .tc main_v1_1) = fun i : S100x100.Idx => pooled (g.gates p) p (i 0) (i 1)) : new1 V = g.new p := by
  funext n d
  rw [Hand.new1, h.mix1 p hp hM, hp]
  rfl

theorem Holds.mix3 (h : Holds V g) (p : Fin 10000 → Vec100) (hp : V (Proc.devRef .tc main_v3_0) = ofRows p)
    (hM : V (Proc.devRef .tc main_v3_1) = fun i : S100x100.Idx => pooled (g.gates p) p (i 0) (i 1)) : mix3 V = g.mix p := by
  funext n
  rw [Hand.mix3, hp, hM, h.u, h.v]
  rfl

theorem Holds.new3 (h : Holds V g) (p : Fin 10000 → Vec100) (hp : V (Proc.devRef .tc main_v3_0) = ofRows p)
    (hM : V (Proc.devRef .tc main_v3_1) = fun i : S100x100.Idx => pooled (g.gates p) p (i 0) (i 1)) : new3 V = g.new p := by
  funext n d
  rw [Hand.new3, h.mix3 p hp hM, hp]
  rfl

/-! ## From call to call -/

variable (m : (ℓ : Loc nD τ sig) → Buf (Elt Ideal) ℓ) (c : Dev nD)

/-- The network that the arguments describe. -/
def net : Net where
  adj n j := (m ((c : Thread nD τ).loc main_arg1) : Vec Ideal S10000x10000 .f32) (ix2 n j)
  wt n := (m ((c : Thread nD τ).loc main_arg0) : Vec Ideal S10000 .f32) (ix1 n)
  emb := rowOf (m ((c : Thread nD τ).loc main_arg2))
  w0 := mat (m ((c : Thread nD τ).loc main_arg3))
  w1 := mat (m ((c : Thread nD τ).loc main_arg4))
  u := mat (m ((c : Thread nD τ).loc main_arg5))
  v := mat (m ((c : Thread nD τ).loc main_arg6))

theorem at1_kept (r : Ref sig .tc) (h : r ∉ hostOps0_W) : at1 m c (Proc.devRef .tc r) = m ((c : Thread nD τ).loc r) := V1_of m c r h

/-- The weights stand in a column. -/
theorem at1_wt (n : Fin 10000) : (at1 m c (Proc.devRef .tc main_v0) : Vec Ideal S10000x1 .f32) (ix2 n 0)
    = (m ((c : Thread nD τ).loc main_arg0) : Vec Ideal S10000 .f32) (ix1 n) := by
  show StableHlo.after hostOps0 (V0 m c) (Proc.devRef .tc main_v0) (ix2 n 0) = _
  entry_read
  pointwise

theorem holds1 : Holds (at1 m c) (net m c) where
  adj := by funext n j; rw [adjOf, at1_kept m c main_arg1 (by decide)]; rfl
  wt := funext (at1_wt m c)
  emb := by rw [at1_kept m c main_arg2 (by decide)]; rfl
  w0 := by rw [at1_kept m c main_arg3 (by decide)]; rfl
  w1 := by rw [at1_kept m c main_arg4 (by decide)]; rfl
  u := by rw [at1_kept m c main_arg5 (by decide)]; rfl
  v := by rw [at1_kept m c main_arg6 (by decide)]; rfl

theorem holds2 : Holds (at2 m c) (net m c) :=
  (holds1 m c).congr fun r hr => Pipeline.afterRegion_keeps (dat0 (at1 m c) c) (at1 m c) winFacts0.arr_inj (fun _ => rfl) r
    ((by decide : ∀ r ∈ readOnly, ∀ w, Pipeline.arrRef spec0 w = r → (cfg0.win w).isOut = false) r hr)

theorem holds3 : Holds (at3 m c) (net m c) :=
  (holds2 m c).congr fun r hr => Pipeline.afterRegion_keeps (dat1 (at2 m c) c) (at2 m c) winFacts1.arr_inj (fun _ => rfl) r
    ((by decide : ∀ r ∈ readOnly, ∀ w, Pipeline.arrRef spec1 w = r → (cfg1.win w).isOut = false) r hr)

theorem holds4 : Holds (at4 m c) (net m c) :=
  (holds3 m c).congr fun r hr => Pipeline.afterRegion_keeps (dat2 (at3 m c) c) (at3 m c) winFacts2.arr_inj (fun _ => rfl) r
    ((by decide : ∀ r ∈ readOnly, ∀ w, Pipeline.arrRef spec2 w = r → (cfg2.win w).isOut = false) r hr)

theorem at2_rows : at2 m c (Proc.devRef .tc main_v1_0) = ofRows (net m c).p1 := by
  rw [← (holds1 m c).carry0, ← arr0_5 (at1 m c) c]
  exact Pipeline.afterRegion_arr (dat0 (at1 m c) c) (at1 m c) winFacts0.arr_inj 5

theorem at2_pool : at2 m c (Proc.devRef .tc main_v1_1)
    = fun i : S100x100.Idx => pooled ((net m c).gates (net m c).p1) (net m c).p1 (i 0) (i 1) := by
  rw [← (holds1 m c).carry0, ← (holds1 m c).gateOf, ← arr0_6 (at1 m c) c]
  exact Pipeline.afterRegion_arr (dat0 (at1 m c) c) (at1 m c) winFacts0.arr_inj 6

theorem at3_norms : at3 m c (Proc.devRef .tc main_v2_0) = ofRows fun n => norm ((net m c).new (net m c).p1 n) := by
  rw [← (holds2 m c).new1 _ (at2_rows m c) (at2_pool m c), ← arr1_5 (at2 m c) c]
  exact Pipeline.afterRegion_arr (dat1 (at2 m c) c) (at2 m c) winFacts1.arr_inj 5

theorem at3_mixes : at3 m c (Proc.devRef .tc main_v2_1) = ofRows fun n => norm ((net m c).mix (net m c).p1 n) := by
  rw [← (holds2 m c).mix1 _ (at2_rows m c) (at2_pool m c), ← arr1_6 (at2 m c) c]
  exact Pipeline.afterRegion_arr (dat1 (at2 m c) c) (at2 m c) winFacts1.arr_inj 6

theorem at3_next : at3 m c (Proc.devRef .tc main_v2_2) = ofRows fun n => lin ((net m c).new (net m c).p1 n) (net m c).w1 := by
  rw [← (holds2 m c).new1 _ (at2_rows m c) (at2_pool m c), ← (holds2 m c).w1, ← arr1_7 (at2 m c) c]
  exact Pipeline.afterRegion_arr (dat1 (at2 m c) c) (at2 m c) winFacts1.arr_inj 7

theorem carry2_at3 : carry2 (at3 m c) = (net m c).p2 := by
  rw [carry2, (holds3 m c).adj, at3_next]
  rfl

theorem at4_rows : at4 m c (Proc.devRef .tc main_v3_0) = ofRows (net m c).p2 := by
  rw [← carry2_at3, ← arr2_4 (at3 m c) c]
  exact Pipeline.afterRegion_arr (dat2 (at3 m c) c) (at3 m c) winFacts2.arr_inj 4

theorem at4_pool : at4 m c (Proc.devRef .tc main_v3_1)
    = fun i : S100x100.Idx => pooled ((net m c).gates (net m c).p2) (net m c).p2 (i 0) (i 1) := by
  rw [← carry2_at3, ← (holds3 m c).gateOf, ← arr2_5 (at3 m c) c]
  exact Pipeline.afterRegion_arr (dat2 (at3 m c) c) (at3 m c) winFacts2.arr_inj 5

theorem at4_kept (r : Ref sig .tc) (h : ∀ w, Pipeline.arrRef spec2 w = r → (cfg2.win w).isOut = false) :
    at4 m c (Proc.devRef .tc r) = at3 m c (Proc.devRef .tc r) :=
  Pipeline.afterRegion_keeps (dat2 (at3 m c) c) (at3 m c) winFacts2.arr_inj (fun _ => rfl) r h

/-- The first result. -/
theorem at5_nodes : at5 m c (Proc.devRef .tc main_v4_0) = ofRows (net m c).nodes := by
  refine (Pipeline.afterRegion_arr (dat3 (at4 m c) c) (at4 m c) winFacts3.arr_inj 7).trans ?_
  rw [arr3_7, (holds4 m c).emb, (holds4 m c).new3 _ (at4_rows m c) (at4_pool m c), at4_kept m c main_v2_0 (by decide), at3_norms]
  rfl

/-- The second result. -/
theorem at5_groups : at5 m c (Proc.devRef .tc main_v4_1) = ofRows (net m c).groups := by
  refine (Pipeline.afterRegion_arr (dat3 (at4 m c) c) (at4 m c) winFacts3.arr_inj 8).trans ?_
  rw [arr3_8, (holds4 m c).mix3 _ (at4_rows m c) (at4_pool m c), at4_kept m c main_v2_1 (by decide), at3_mixes]
  rfl

end Cert.KernelIdeal.Hand

end
-- ==== Proof.Value.Reference.lean ====
/-
  The reference's results, read at a node and a feature: the same network, each layer by the same lemmas.
-/
module

public import proofs.«01_k».proof.Proof.Value.Row
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value Cert.Row
open Idealize.ShloMosaic Idealize.ShloMosaic.TcCoe Idealize.ShloMosaic.Tactic

/-! ## One layer's steps, over any rows -/

section Layer

variable (P : FVec Ideal S10000x100 .f32) (U W : FVec Ideal S100x100 .f32) (a : FVec Ideal S10000 .f32)

/-- The gate's logits, -/
def logits : FVec Ideal S10000x100 .f32 :=
  Host.dotGeneral dot_S10000x100_S100x100_S10000x100_1_0_0_1_n_n none
    (maximumf (addf (Host.dotGeneral dot_S10000x100_S100x100_S10000x100_1_0_0_1_n_n none P U) P)
      (broadcastInDim S10000x100 ![] bcast_S_S10000x100 (constant S_ .f32 0x00000000#32))) W

/-- their exponentials, the largest taken off, -/
def powers : FVec Ideal S10000x100 .f32 :=
  Host.exp (subf P (broadcastInDim S10000x100 ![0, 1] bcast_S10000x1_S10000x100_0_1 (broadcastInDim S10000x1 ![0] bcast_S10000_S10000x1_0
    (maximumf (broadcastInDim S10000 ![] bcast_S_S10000 (constant S_ .f32 0xFF800000#32))
      (Host.reduce FloatOps.maximumf P (constant S_ .f32 0xFF800000#32) reducesTo_S10000x100_S10000_d1 h_S_)))))

/-- the exponentials over their sum, -/
def shares : FVec Ideal S10000x100 .f32 :=
  Host.divf P (broadcastInDim S10000x100 ![0, 1] bcast_S10000x1_S10000x100_0_1 (broadcastInDim S10000x1 ![0] bcast_S10000_S10000x1_0
    (Host.reduceAdd P (constant S_ .f32 0x00000000#32) reducesTo_S10000x100_S10000_d1 h_S_)))

/-- the shares under the nodes' weights, -/
def weighted : FVec Ideal S100x10000 .f32 :=
  mulf (transpose S100x10000 [1, 0] P transposes_S10000x100_S100x10000_1_0)
    (broadcastInDim S100x10000 ![0, 1] bcast_S1x10000_S100x10000_0_1 (broadcastInDim S1x10000 ![1] bcast_S10000_S1x10000_1 a))

/-- and the rows mixed. -/
def mixes (H : FVec Ideal S10000x100 .f32) (Q : FVec Ideal S100x10000 .f32) : FVec Ideal S10000x100 .f32 :=
  Host.dotGeneral dot_S10000x100_S100x100_S10000x100_1_0_0_1_n_n none H
    (Host.dotGeneral dot_S100x10000_S10000x100_S100x100_1_0_0_1_n_n none
      (mulf Q (broadcastInDim S100x10000 ![0, 1] bcast_S1x10000_S100x10000_0_1 (broadcastInDim S1x10000 ![1] bcast_S10000_S1x10000_1
        (Host.divf (broadcastInDim S10000 ![] bcast_S_S10000 (constant S_ .f32 0x3F800000#32))
          (addf (Host.reduceAdd Q (constant S_ .f32 0x00000000#32) reducesTo_S100x10000_S10000_d0 h_S_)
            (broadcastInDim S10000 ![] bcast_S_S10000 (constant S_ .f32 0x322BCC77#32))))))) P)

theorem logits_at (n : Fin 10000) (k : Fin 100) : logits P U W (ix2 n k)
    = act (fun i j => U (ix2 i j)) (fun i j => W (ix2 i j)) (fun d => P (ix2 n d)) k := by
  pointwise [logits]
  rfl

theorem powers_at (n : Fin 10000) (k : Fin 100) :
    powers P (ix2 n k) = Ideal.exp (P (ix2 n k) - top fun j => P (ix2 n j)) := by
  rw [← top_idem]
  pointwise [powers]
  rfl

theorem shares_at (n : Fin 10000) (k : Fin 100) : shares P (ix2 n k) = Ideal.div (P (ix2 n k)) (∑ j, P (ix2 n j)) := by
  pointwise [shares]

theorem weighted_at (k : Fin 100) (n : Fin 10000) : weighted P a (ix2 k n) = P (ix2 n k) * a (ix1 n) := by
  pointwise [weighted]

theorem mixes_at (H : FVec Ideal S10000x100 .f32) (Q : FVec Ideal S100x10000 .f32) (n : Fin 10000) (d : Fin 100) :
    mixes P H Q (ix2 n d) = lin (fun k => H (ix2 n k))
      (pooled (fun n k => Q (ix2 k n) * Ideal.div 1 (∑ j, Q (ix2 j n) + eps)) fun n d => P (ix2 n d)) d := by
  pointwise [mixes]
  rfl

/-- The shares of a row's logits are their soft maximum. -/
theorem soft_at (n : Fin 10000) (k : Fin 100) : shares (powers (logits P U W)) (ix2 n k)
    = soft (act (fun i j => U (ix2 i j)) (fun i j => W (ix2 i j)) fun d => P (ix2 n d)) k := by
  simp only [shares_at, powers_at, logits_at]
  rfl

/-- A layer's mixed rows are the network's. -/
theorem layer_at (g : Net) (hu : (fun i j => U (ix2 i j)) = g.u) (hv : (fun i j => W (ix2 i j)) = g.v)
    (ha : (fun n => a (ix1 n)) = g.wt) (p : Fin 10000 → Vec100) (hp : ∀ n d, P (ix2 n d) = p n d) (n : Fin 10000) (d : Fin 100) :
    mixes P (shares (powers (logits P U W))) (weighted (shares (powers (logits P U W))) a) (ix2 n d) = g.mix p n d := by
  have ha' : ∀ n, a (ix1 n) = g.wt n := congrFun ha
  have hg : ∀ n k, gateW (g.wt n) (soft (act g.u g.v (p n))) k = g.gates p n k := fun n k => congrFun (gate_eq _ _) k
  simp only [mixes_at, weighted_at, soft_at, hu, hv, ha', hp]
  show lin _ (pooled (fun n k => gateW (g.wt n) (soft (act g.u g.v (p n))) k) p) d = _
  simp only [hg]
  rfl

/-- The rows over their lengths. -/
def unit : FVec Ideal S10000x100 .f32 :=
  Host.divf P (broadcastInDim S10000x100 ![0, 1] bcast_S10000x1_S10000x100_0_1
    (maximumf (Host.sqrt (broadcastInDim S10000x1 ![0] bcast_S10000_S10000x1_0
      (Host.reduceAdd (mulf P P) (constant S_ .f32 0x00000000#32) reducesTo_S10000x100_S10000_d1 h_S_)))
      (broadcastInDim S10000x1 ![] bcast_S_S10000x1 (constant S_ .f32 0x2B8CBCCC#32))))

theorem unit_at (n : Fin 10000) (d : Fin 100) : unit P (ix2 n d) = norm (fun d => P (ix2 n d)) d := by
  pointwise [unit]
  rfl

/-- The first result's mean, -/
def mean3 (E N N' : FVec Ideal S10000x100 .f32) : FVec Ideal S10000x100 .f32 :=
  Host.divf (addf (addf (addf (broadcastInDim S10000x100 ![] bcast_S_S10000x100 (constant S_ .f32 0x00000000#32)) E) N) N')
    (broadcastInDim S10000x100 ![] bcast_S_S10000x100 (constant S_ .f32 0x40400000#32))
/-- and the second's. -/
def mean2 (N N' : FVec Ideal S10000x100 .f32) : FVec Ideal S10000x100 .f32 :=
  Host.divf (addf (addf (broadcastInDim S10000x100 ![] bcast_S_S10000x100 (constant S_ .f32 0x00000000#32)) N) N')
    (broadcastInDim S10000x100 ![] bcast_S_S10000x100 (constant S_ .f32 0x40000000#32))

theorem mean3_at (E N N' : FVec Ideal S10000x100 .f32) (n : Fin 10000) (d : Fin 100) :
    mean3 E N N' (ix2 n d) = (E (ix2 n d) + N (ix2 n d) + N' (ix2 n d)) * ((1 / 3 : ℝ) : EReal) := by
  rw [← third]
  pointwise [mean3]

theorem mean2_at (N N' : FVec Ideal S10000x100 .f32) (n : Fin 10000) (d : Fin 100) :
    mean2 N N' (ix2 n d) = (N (ix2 n d) + N' (ix2 n d)) * Ideal.ofBits .f32 0x3F000000#32 := by
  rw [← half]
  pointwise [mean2]

end Layer

/-! ## The reference's named steps -/

variable (V : Valuation τ sig (Elt Ideal))

/-- The network that the contents `V` describe. -/
def net : Net where
  adj n j := (V (Proc.devRef .tc main_arg1) : FVec Ideal S10000x10000 .f32) (ix2 n j)
  wt n := (V (Proc.devRef .tc main_arg0) : FVec Ideal S10000 .f32) (ix1 n)
  emb n d := (V (Proc.devRef .tc main_arg2) : FVec Ideal S10000x100 .f32) (ix2 n d)
  w0 i j := (V (Proc.devRef .tc main_arg3) : FVec Ideal S100x100 .f32) (ix2 i j)
  w1 i j := (V (Proc.devRef .tc main_arg4) : FVec Ideal S100x100 .f32) (ix2 i j)
  u i j := (V (Proc.devRef .tc main_arg5) : FVec Ideal S100x100 .f32) (ix2 i j)
  v i j := (V (Proc.devRef .tc main_arg6) : FVec Ideal S100x100 .f32) (ix2 i j)

theorem v1_at (n : Fin 10000) (d : Fin 100) : res_main_v1 V (ix2 n d) = (net V).p1 n d := by
  pointwise [res_main_v1]
  rfl

theorem v30_at (n : Fin 10000) (d : Fin 100) : res_main_v30 V (ix2 n d) = (net V).mix (net V).p1 n d :=
  layer_at (res_main_v1 V) (V (Proc.devRef .tc main_arg5)) (V (Proc.devRef .tc main_arg6)) (V (Proc.devRef .tc main_arg0)) (net V)
    rfl rfl rfl _ (v1_at V) n d

theorem v31_at (n : Fin 10000) (d : Fin 100) : res_main_v31 V (ix2 n d) = (net V).new (net V).p1 n d :=
  congrArg₂ (fun x y : EReal => x + y) (v30_at V n d) (v1_at V n d)

theorem v43_at (n : Fin 10000) (d : Fin 100) : res_main_v43 V (ix2 n d) = (net V).p2 n d := by
  have h := v31_at V
  revert h
  unfold res_main_v43
  generalize res_main_v31 V = P
  intro h
  pointwise
  simp only [h]
  rfl

theorem v72_at (n : Fin 10000) (d : Fin 100) : res_main_v72 V (ix2 n d) = (net V).mix (net V).p2 n d :=
  layer_at (res_main_v43 V) (V (Proc.devRef .tc main_arg5)) (V (Proc.devRef .tc main_arg6)) (V (Proc.devRef .tc main_arg0)) (net V)
    rfl rfl rfl _ (v43_at V) n d

theorem v73_at (n : Fin 10000) (d : Fin 100) : res_main_v73 V (ix2 n d) = (net V).new (net V).p2 n d :=
  congrArg₂ (fun x y : EReal => x + y) (v72_at V n d) (v43_at V n d)

/-- The first result, at a node and a feature. -/
theorem nodes_at (n : Fin 10000) (d : Fin 100) :
    mean3 (V (Proc.devRef .tc main_arg2)) (unit (res_main_v31 V)) (unit (res_main_v73 V)) (ix2 n d) = (net V).nodes n d := by
  rw [mean3_at, unit_at, unit_at, funext (v31_at V n), funext (v73_at V n)]
  rfl

/-- The second result, at a node and a feature. -/
theorem groups_at (n : Fin 10000) (d : Fin 100) :
    mean2 (unit (res_main_v30 V)) (unit (res_main_v72 V)) (ix2 n d) = (net V).groups n d := by
  rw [mean2_at, unit_at, unit_at, funext (v30_at V n), funext (v72_at V n)]
  rfl

end Cert.ReferenceIdeal.Hand

end
-- ==== Proof.lean ====
/- The certificate's claims, assembled: the three frames come from the runs of the three programs, the named constant's
   rule is a fact about the constant, and the value claim compares both results with one network over the arguments. -/
module

public import proofs.«01_k».proof.Defs
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value.Chain
public import proofs.«01_k».proof.Proof.Value.Reference
public import Idealize.ShloMosaic.Adequacy
public import Idealize.ShloMosaic.Init

@[expose] public section

noncomputable section

namespace Cert.Proof

open Idealize.ShloMosaic Idealize.SL.Sem

/-- The kernel as printed runs to the end and keeps its arguments. -/
theorem frame_kernel : Cert.quiescent_Kernel (hKernel := Cert.Kernel.Gen.facts) :=
  fun m g _ => Cert.Kernel.Hand.run_frame m g

/-- So does the idealized kernel. -/
theorem frame_ideal : Cert.quiescent_KernelIdeal (hKernelIdeal := Cert.KernelIdeal.Gen.facts) :=
  fun m g _ => Cert.KernelIdeal.Hand.run_frame m g

/-- The reference runs to the end and keeps its arguments. -/
theorem frame_reference : Cert.quiescent_ReferenceIdeal (hReferenceIdeal := Cert.ReferenceIdeal.Gen.facts) := by
  intro m g _
  exact (θ_run Cert.ReferenceIdeal.defs _ _).mono
    (fun r h => ⟨fun c => (h c).2.2, sem_eq_zero_of_no_sems (by decide) r.2⟩)
    (Cert.ReferenceIdeal.Value.run m g)

/-- The constant `third` is a third at the ideal instance and the printed word at the bits. -/
theorem third_kept : Cert.preserves_Kernel_KernelIdeal :=
  IdealRules.named_const.statement Cert.KernelIdeal.κ "third" .f32 0x3EAAAAAB#32 ((1 / 3 : ℝ) : EReal) rfl

/-- Arguments that agree describe one network. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6)) :
    Cert.ReferenceIdeal.Hand.net (StableHlo.launchContents m' c) = Cert.KernelIdeal.Hand.net m c := by
  have e : ∀ {A B : Cert.Row.Net}, A.adj = B.adj → A.wt = B.wt → A.emb = B.emb → A.w0 = B.w0 → A.w1 = B.w1
      → A.u = B.u → A.v = B.v → A = B := by
    rintro ⟨⟩ ⟨⟩ rfl rfl rfl rfl rfl rfl rfl
    rfl
  refine e ?_ ?_ ?_ ?_ ?_ ?_ ?_
  · exact funext fun n => funext fun j => congrFun h1 (ix2 n j)
  · exact funext fun n => congrFun h0 (ix1 n)
  · exact funext fun n => funext fun d => congrFun h2 (ix2 n d)
  · exact funext fun i => funext fun j => congrFun h3 (ix2 i j)
  · exact funext fun i => funext fun j => congrFun h4 (ix2 i j)
  · exact funext fun i => funext fun j => congrFun h5 (ix2 i j)
  · exact funext fun i => funext fun j => congrFun h6 (ix2 i j)

/-- On equal arguments the two programs leave equal results. -/
theorem values : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Hand.at5 m c (Proc.devRef .tc Cert.KernelIdeal.main_v4_0),
    fun c => Cert.KernelIdeal.Hand.at5 m c (Proc.devRef .tc Cert.KernelIdeal.main_v4_1), ?_, ?_⟩
  · refine (θ_run Cert.KernelIdeal.defs _ _).mono (fun r h c => ?_) (Cert.KernelIdeal.Hand.run_main m g)
    exact ⟨h.1 c _ rfl, h.1 c _ rfl, Cert.KernelIdeal.Hand.args_kept m h c⟩
  · refine (θ_run Cert.ReferenceIdeal.defs _ _).mono (fun r h c => ?_) (Cert.ReferenceIdeal.Value.run m' g')
    obtain ⟨h0, h1, h2, h3, h4, h5, h6, _⟩ := hargs c
    have hn := net_eq m m' c h0 h1 h2 h3 h4 h5 h6
    refine ⟨(h c).1.trans ?_, (h c).2.1.trans ?_, (h c).2.2⟩
    · refine Eq.trans ?_ (Cert.KernelIdeal.Hand.at5_nodes m c).symm
      rw [← hn]
      funext i
      obtain ⟨n, d, rfl⟩ := Cert.KernelIdeal.Hand.exists_ix2 i
      exact Cert.ReferenceIdeal.Hand.nodes_at _ n d
    · refine Eq.trans ?_ (Cert.KernelIdeal.Hand.at5_groups m c).symm
      rw [← hn]
      funext i
      obtain ⟨n, d, rfl⟩ := Cert.KernelIdeal.Hand.exists_ix2 i
      exact Cert.ReferenceIdeal.Hand.groups_at _ n d

theorem claim : Cert.Claim :=
  ⟨Cert.Kernel.Gen.facts, Cert.KernelIdeal.Gen.facts, Cert.ReferenceIdeal.Gen.facts,
    frame_kernel, frame_ideal, frame_reference, third_kept, values⟩

end Cert.Proof

end
